-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S512x4096 : Shape := ⟨2, ![512, 4096]⟩
abbrev S3x512x1024 : Shape := ⟨3, ![3, 512, 1024]⟩
abbrev S8x128 : Shape := ⟨2, ![8, 128]⟩
abbrev S3 : Shape := ⟨1, ![3]⟩
abbrev S8 : Shape := ⟨1, ![8]⟩
abbrev S_ : Shape := ⟨0, ![]⟩
abbrev S512x512 : Shape := ⟨2, ![512, 512]⟩
abbrev S1 : Shape := ⟨1, ![1]⟩
abbrev S1x512x1024 : Shape := ⟨3, ![1, 512, 1024]⟩
abbrev S512x1024 : Shape := ⟨2, ![512, 1024]⟩
abbrev S1x1x1 : Shape := ⟨3, ![1, 1, 1]⟩
abbrev S1x128 : Shape := ⟨2, ![1, 128]⟩
abbrev S8x1 : Shape := ⟨2, ![8, 1]⟩
abbrev S1x8 : Shape := ⟨2, ![1, 8]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S4096x512, .bf16⟩
  | .local _ .vmem, ⟨3, _⟩ => ⟨S512x4096, .bf16⟩
  | .local _ .vmem, ⟨4, _⟩ => ⟨S3x512x1024, .f32⟩
  | .local _ .vmem, ⟨5, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c512_i32 : BitVec 32 := 512#32
  let v34 : BitVec 32 := Scalar.muli v33 c512_i32
  let v35 : Index := Scalar.indexCast v34
  let c0 : Index := 0#32
  ![v35.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_32 : BitVec 32 := 512#32
  let v43 : BitVec 32 := Scalar.muli v2 c512_i32_32
  ![0, v43.toNat]
def k0_off4 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c512_i32 : BitVec 32 := 512#32
  let v34 : BitVec 32 := Scalar.muli v33 c512_i32
  let c0_i32_37 : BitVec 32 := 0#32
  ![v34.toNat, 0]
def k0_dev8 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_34 : BitVec 32 := 1#32
  let v44 : BitVec 32 := Scalar.muli v33 c1_i32_34
  let v45 : BitVec 32 := Scalar.addi c0_i32_35 v44
  v45.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v52 : BitVec 32 := Scalar.addi v2 c2_i32_38
  let c8_i32_39 : BitVec 32 := 8#32
  let v53 : BitVec 32 := Scalar.remsi v52 c8_i32_39
  let c1_i32_45 : BitVec 32 := 1#32
  let v64 : BitVec 32 := Scalar.muli v53 c1_i32_45
  let v65 : BitVec 32 := Scalar.addi c0_i32_46 v64
  v65.toNat
def k0_dev10 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_49 : BitVec 32 := 3#32
  let v72 : BitVec 32 := Scalar.addi v2 c3_i32_49
  let c8_i32_50 : BitVec 32 := 8#32
  let v73 : BitVec 32 := Scalar.remsi v72 c8_i32_50
  let c1_i32_56 : BitVec 32 := 1#32
  let v84 : BitVec 32 := Scalar.muli v73 c1_i32_56
  let v85 : BitVec 32 := Scalar.addi c0_i32_57 v84
  v85.toNat
def k0_dev11 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_60 : BitVec 32 := 4#32
  let v92 : BitVec 32 := Scalar.addi v2 c4_i32_60
  let c8_i32_61 : BitVec 32 := 8#32
  let v93 : BitVec 32 := Scalar.remsi v92 c8_i32_61
  let c1_i32_67 : BitVec 32 := 1#32
  let v104 : BitVec 32 := Scalar.muli v93 c1_i32_67
  let v105 : BitVec 32 := Scalar.addi c0_i32_68 v104
  v105.toNat
def k0_dev12 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_71 : BitVec 32 := 5#32
  let v112 : BitVec 32 := Scalar.addi v2 c5_i32_71
  let c8_i32_72 : BitVec 32 := 8#32
  let v113 : BitVec 32 := Scalar.remsi v112 c8_i32_72
  let c1_i32_78 : BitVec 32 := 1#32
  let v124 : BitVec 32 := Scalar.muli v113 c1_i32_78
  let v125 : BitVec 32 := Scalar.addi c0_i32_79 v124
  v125.toNat
def k0_dev13 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_82 : BitVec 32 := 6#32
  let v132 : BitVec 32 := Scalar.addi v2 c6_i32_82
  let c8_i32_83 : BitVec 32 := 8#32
  let v133 : BitVec 32 := Scalar.remsi v132 c8_i32_83
  let c1_i32_89 : BitVec 32 := 1#32
  let v144 : BitVec 32 := Scalar.muli v133 c1_i32_89
  let v145 : BitVec 32 := Scalar.addi c0_i32_90 v144
  v145.toNat
def k0_dev14 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_93 : BitVec 32 := 7#32
  let v152 : BitVec 32 := Scalar.addi v2 c7_i32_93
  let c8_i32_94 : BitVec 32 := 8#32
  let v153 : BitVec 32 := Scalar.remsi v152 c8_i32_94
  let c1_i32_100 : BitVec 32 := 1#32
  let v164 : BitVec 32 := Scalar.muli v153 c1_i32_100
  let v165 : BitVec 32 := Scalar.addi c0_i32_101 v164
  v165.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_104 : BitVec 32 := 512#32
  let v172 : BitVec 32 := Scalar.muli v2 c512_i32_104
  let v173 : Index := Scalar.indexCast v172
  let c0_105 : Index := 0#32
  ![v173.toNat, 0]
def k0_off6 (d0 : Dev nD) : Fin 2 → Nat :=
  let c0_107 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_106 : BitVec 32 := 512#32
  let v177 : BitVec 32 := Scalar.muli v2 c512_i32_106
  let v178 : Index := Scalar.indexCast v177
  ![0, v178.toNat]
def k0_off7 (d0 : Dev nD) (c0_i32_108 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : BitVec 32 := Scalar.addi v2 c0_i32_108
  let c8_i32_109 : BitVec 32 := 8#32
  let v183 : BitVec 32 := Scalar.remsi v182 c8_i32_109
  let c512_i32_110 : BitVec 32 := 512#32
  let v184 : BitVec 32 := Scalar.muli v183 c512_i32_110
  let c0_i32_115 : BitVec 32 := 0#32
  ![v184.toNat, 0]
def k0_off8 (d0 : Dev nD) (c0_i32_116 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v190 : BitVec 32 := Scalar.addi v2 c0_i32_116
  let c8_i32_117 : BitVec 32 := 8#32
  let v191 : BitVec 32 := Scalar.remsi v190 c8_i32_117
  let c512_i32_118 : BitVec 32 := 512#32
  let v192 : BitVec 32 := Scalar.muli v191 c512_i32_118
  let c1024_i32 : BitVec 32 := 1024#32
  ![v192.toNat, 1024]
def k0_off9 (d0 : Dev nD) (c0_i32_125 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v200 : BitVec 32 := Scalar.addi v2 c0_i32_125
  let c8_i32_126 : BitVec 32 := 8#32
  let v201 : BitVec 32 := Scalar.remsi v200 c8_i32_126
  let c512_i32_127 : BitVec 32 := 512#32
  let v202 : BitVec 32 := Scalar.muli v201 c512_i32_127
  let c2048_i32 : BitVec 32 := 2048#32
  ![v202.toNat, 2048]
def k0_off10 (d0 : Dev nD) (c0_i32_123 : BitVec 32) : Fin 2 → Nat :=
  let c0_144 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v198 : BitVec 32 := Scalar.addi v2 c0_i32_123
  let c8_i32_124 : BitVec 32 := 8#32
  let v199 : BitVec 32 := Scalar.remsi v198 c8_i32_124
  let c512_i32_143 : BitVec 32 := 512#32
  let v219 : BitVec 32 := Scalar.muli v199 c512_i32_143
  let v220 : Index := Scalar.indexCast v219
  ![0, v220.toNat]
def k0_off11 (d0 : Dev nD) (c0_i32_149 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v226 : BitVec 32 := Scalar.addi v2 c0_i32_149
  let c8_i32_150 : BitVec 32 := 8#32
  let v227 : BitVec 32 := Scalar.remsi v226 c8_i32_150
  let c512_i32_151 : BitVec 32 := 512#32
  let v228 : BitVec 32 := Scalar.muli v227 c512_i32_151
  let c3072_i32 : BitVec 32 := 3072#32
  ![v228.toNat, 3072]
def k0_off12 (d0 : Dev nD) (c0_i32_172 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v252 : BitVec 32 := Scalar.addi v2 c0_i32_172
  let c8_i32_173 : BitVec 32 := 8#32
  let v253 : BitVec 32 := Scalar.remsi v252 c8_i32_173
  let c512_i32_174 : BitVec 32 := 512#32
  let v254 : BitVec 32 := Scalar.muli v253 c512_i32_174
  let c4096_i32 : BitVec 32 := 4096#32
  ![v254.toNat, 4096]
def k0_off13 (d0 : Dev nD) (c0_i32_195 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v278 : BitVec 32 := Scalar.addi v2 c0_i32_195
  let c8_i32_196 : BitVec 32 := 8#32
  let v279 : BitVec 32 := Scalar.remsi v278 c8_i32_196
  let c512_i32_197 : BitVec 32 := 512#32
  let v280 : BitVec 32 := Scalar.muli v279 c512_i32_197
  let c5120_i32 : BitVec 32 := 5120#32
  ![v280.toNat, 5120]
def k0_off14 (d0 : Dev nD) (c0_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v304 : BitVec 32 := Scalar.addi v2 c0_i32_219
  let c8_i32_220 : BitVec 32 := 8#32
  let v305 : BitVec 32 := Scalar.remsi v304 c8_i32_220
  let c512_i32_221 : BitVec 32 := 512#32
  let v306 : BitVec 32 := Scalar.muli v305 c512_i32_221
  let c6144_i32 : BitVec 32 := 6144#32
  ![v306.toNat, 6144]
def k0_off15 (d0 : Dev nD) (c0_i32_243 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v330 : BitVec 32 := Scalar.addi v2 c0_i32_243
  let c8_i32_244 : BitVec 32 := 8#32
  let v331 : BitVec 32 := Scalar.remsi v330 c8_i32_244
  let c512_i32_245 : BitVec 32 := 512#32
  let v332 : BitVec 32 := Scalar.muli v331 c512_i32_245
  let c7168_i32 : BitVec 32 := 7168#32
  ![v332.toNat, 7168]
def k0_off16 (d0 : Dev nD) (c1_i32_315 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v406 : BitVec 32 := Scalar.addi v2 c1_i32_315
  let c8_i32_316 : BitVec 32 := 8#32
  let v407 : BitVec 32 := Scalar.remsi v406 c8_i32_316
  ![v407.toNat]
def k0_off17 (d0 : Dev nD) (c1_i32_315 : BitVec 32) : Fin 2 → Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v406 : BitVec 32 := Scalar.addi v2 c1_i32_315
  let c8_i32_316 : BitVec 32 := 8#32
  let v407 : BitVec 32 := Scalar.remsi v406 c8_i32_316
  let c512_i32_317 : BitVec 32 := 512#32
  let v408 : BitVec 32 := Scalar.muli v407 c512_i32_317
  ![0, v408.toNat]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2144 : Index := Scalar.indexCast v2
  let c0_1965 : Index := 0#32
  ![v2144.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1971 : BitVec 32 := 0#32
  ![v2.toNat, 0]
def k0_dev15 (d0 : Dev nD) : Nat :=
  let c0_i32_1970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1966 : BitVec 32 := 1#32
  let v2148 : BitVec 32 := Scalar.addi v2 c1_i32_1966
  let c8_i32_1967 : BitVec 32 := 8#32
  let v2149 : BitVec 32 := Scalar.remsi v2148 c8_i32_1967
  let c1_i32_1969 : BitVec 32 := 1#32
  let v2150 : BitVec 32 := Scalar.muli v2149 c1_i32_1969
  let v2151 : BitVec 32 := Scalar.addi c0_i32_1970 v2150
  v2151.toNat
def k0_dev16 (d0 : Dev nD) : Nat :=
  let c0_i32_1977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1973 : BitVec 32 := 2#32
  let v2158 : BitVec 32 := Scalar.addi v2 c2_i32_1973
  let c8_i32_1974 : BitVec 32 := 8#32
  let v2159 : BitVec 32 := Scalar.remsi v2158 c8_i32_1974
  let c1_i32_1976 : BitVec 32 := 1#32
  let v2160 : BitVec 32 := Scalar.muli v2159 c1_i32_1976
  let v2161 : BitVec 32 := Scalar.addi c0_i32_1977 v2160
  v2161.toNat
def k0_dev17 (d0 : Dev nD) : Nat :=
  let c0_i32_1984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1980 : BitVec 32 := 3#32
  let v2168 : BitVec 32 := Scalar.addi v2 c3_i32_1980
  let c8_i32_1981 : BitVec 32 := 8#32
  let v2169 : BitVec 32 := Scalar.remsi v2168 c8_i32_1981
  let c1_i32_1983 : BitVec 32 := 1#32
  let v2170 : BitVec 32 := Scalar.muli v2169 c1_i32_1983
  let v2171 : BitVec 32 := Scalar.addi c0_i32_1984 v2170
  v2171.toNat
def k0_dev18 (d0 : Dev nD) : Nat :=
  let c0_i32_1991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1987 : BitVec 32 := 4#32
  let v2178 : BitVec 32 := Scalar.addi v2 c4_i32_1987
  let c8_i32_1988 : BitVec 32 := 8#32
  let v2179 : BitVec 32 := Scalar.remsi v2178 c8_i32_1988
  let c1_i32_1990 : BitVec 32 := 1#32
  let v2180 : BitVec 32 := Scalar.muli v2179 c1_i32_1990
  let v2181 : BitVec 32 := Scalar.addi c0_i32_1991 v2180
  v2181.toNat
def k0_dev19 (d0 : Dev nD) : Nat :=
  let c0_i32_1998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1994 : BitVec 32 := 5#32
  let v2188 : BitVec 32 := Scalar.addi v2 c5_i32_1994
  let c8_i32_1995 : BitVec 32 := 8#32
  let v2189 : BitVec 32 := Scalar.remsi v2188 c8_i32_1995
  let c1_i32_1997 : BitVec 32 := 1#32
  let v2190 : BitVec 32 := Scalar.muli v2189 c1_i32_1997
  let v2191 : BitVec 32 := Scalar.addi c0_i32_1998 v2190
  v2191.toNat
def k0_dev20 (d0 : Dev nD) : Nat :=
  let c0_i32_2005 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2001 : BitVec 32 := 6#32
  let v2198 : BitVec 32 := Scalar.addi v2 c6_i32_2001
  let c8_i32_2002 : BitVec 32 := 8#32
  let v2199 : BitVec 32 := Scalar.remsi v2198 c8_i32_2002
  let c1_i32_2004 : BitVec 32 := 1#32
  let v2200 : BitVec 32 := Scalar.muli v2199 c1_i32_2004
  let v2201 : BitVec 32 := Scalar.addi c0_i32_2005 v2200
  v2201.toNat
def k0_dev21 (d0 : Dev nD) : Nat :=
  let c0_i32_2012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2008 : BitVec 32 := 7#32
  let v2208 : BitVec 32 := Scalar.addi v2 c7_i32_2008
  let c8_i32_2009 : BitVec 32 := 8#32
  let v2209 : BitVec 32 := Scalar.remsi v2208 c8_i32_2009
  let c1_i32_2011 : BitVec 32 := 1#32
  let v2210 : BitVec 32 := Scalar.muli v2209 c1_i32_2011
  let v2211 : BitVec 32 := Scalar.addi c0_i32_2012 v2210
  v2211.toNat
def k0_off20 (d0 : Dev nD) (c1_i32_2015 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2218 : BitVec 32 := Scalar.addi v2 c1_i32_2015
  let c8_i32_2016 : BitVec 32 := 8#32
  let v2219 : BitVec 32 := Scalar.remsi v2218 c8_i32_2016
  let c0_i32_2020 : BitVec 32 := 0#32
  ![v2219.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Steps.lean ====
/- The kernel's body, read as a few loops: the printed body spells every turn of its loops out, and
   what is proved about it is proved once per loop, for any turn. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.K

open Idealize.ShloMosaic Idealize.ShloMosaic.TcCoe Idealize.SL.Sem
open Cert.KernelIdeal.Gen

variable {F : FTy → Type} [FloatOps F]

/-- Programs of a TensorCore of this kernel. -/
abbrev Pg (F : FTy → Type) [FloatOps F] (α : Type) := Prog (TpuEff nD τ sig (Elt F) Λ₀ .tc) α

/-- `f` at each member of a list in turn, a value carried along. -/
def turns {ι σ : Type} (f : ι → σ → Pg F σ) : List ι → σ → Pg F σ
  | [], s => pure s
  | i :: l, s => f i s >>= turns f l

/-- The list of the seven other devices' distances, less one. -/
abbrev sevens : List (Fin 7) := [0, 1, 2, 3, 4, 5, 6]
/-- The list of the eight blocks. -/
abbrev eights : List (Fin 8) := [0, 1, 2, 3, 4, 5, 6, 7]

/-! ## The buffers -/

abbrev xM : Memref sig .tc .vmem S4096x512 .f32 := Memref.whole cc0_stg0_0
abbrev wM : Memref sig .tc .hbm S4096x8192 .f32 := Memref.whole main_arg1
abbrev oM : Memref sig .tc .vmem S512x8192 .f32 := Memref.whole cc0_stg1_0
abbrev bM : Memref sig .tc .vmem S4096x512 .bf16 := Memref.whole cc0_scratch0
abbrev gM : Memref sig .tc .vmem S512x4096 .bf16 := Memref.whole cc0_scratch1
abbrev vM : Memref sig .tc .vmem S3x512x1024 .f32 := Memref.whole cc0_scratch2
abbrev aM : Memref sig .tc .vmem S8x128 .f32 := Memref.whole cc0_scratch3

/-! ## Semaphores, by slot -/

theorem inb_S3_S1 (s : Fin 3) : ∀ a, (![s.val] : Fin 1 → Nat) a + S1.size a ≤ S3.size a := by
  revert s; decide
theorem inb_S8_S1 (s : Fin 8) : ∀ a, (![s.val] : Fin 1 → Nat) a + S1.size a ≤ S8.size a := by
  revert s; decide
theorem inb_slot (s : Fin 3) :
    ∀ a, (![s.val, 0, 0] : Fin 3 → Nat) a + S1x512x1024.size a ≤ S3x512x1024.size a := by
  revert s; decide
theorem inb_tile (n : Fin 8) :
    ∀ a, (![0, 1024 * n.val] : Fin 2 → Nat) a + S512x1024.size a ≤ S512x8192.size a := by
  revert n; decide

/-- The runtime's barrier semaphore. -/
abbrev barS : Sem sig := (SemArray.scalar (d := S_.size) (sig.barrier 0 rfl)).sem
/-- Slot `s` of the weight copies' semaphores. -/
abbrev wSem (s : Fin 3) : DmaSem sig :=
  ((cc0_scratch4.slice (Rect.unit (s := S3) ![s.val] S1.size (inb_S3_S1 s))).squeeze S_ squeezes_S1_S_).sem
/-- A slot of an array of eight semaphores, counted from a literal. -/
abbrev slotSem (A : DmaSems sig S8) (s : Fin 8) : DmaSem sig :=
  ((A.slice (Rect.unit (s := S8) ![s.val] S1.size (inb_S8_S1 s))).squeeze S_ squeezes_S1_S_).sem
/-- The slot of such an array that device `c` writes on its peers. -/
abbrev ownSem (A : DmaSems sig S8) (c : Dev nD) : DmaSem sig :=
  ((A.slice (Rect.unit (s := S8) (k0_off2 c) S1.size (k0_off2_inb c))).squeeze S_ squeezes_S1_S_).sem
/-- The slot of such an array that the device `i + 1` further on writes on device `c`. -/
abbrev fromSem (A : DmaSems sig S8) (c : Dev nD) (i : Fin 7) : DmaSem sig :=
  ((A.slice (Rect.unit (s := S8) (k0_off16 c (BitVec.ofNat 32 (1 + i.val))) S1.size (k0_off16_inb c i))).squeeze S_ squeezes_S1_S_).sem

/-! ## The devices named -/

/-- The device signalled `i`-th. -/
def sigDev (c : Dev nD) (i : Fin 7) : Dev nD :=
  match i with
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩
/-- The device a block of `x` goes to `i`-th. -/
def sendDev (c : Dev nD) (i : Fin 7) : Dev nD :=
  match i with
  | 0 => ⟨k0_dev8 c, k0_dev8_lt c⟩ | 1 => ⟨k0_dev9 c, k0_dev9_lt c⟩ | 2 => ⟨k0_dev10 c, k0_dev10_lt c⟩
  | 3 => ⟨k0_dev11 c, k0_dev11_lt c⟩ | 4 => ⟨k0_dev12 c, k0_dev12_lt c⟩ | 5 => ⟨k0_dev13 c, k0_dev13_lt c⟩
  | 6 => ⟨k0_dev14 c, k0_dev14_lt c⟩
/-- The device the local maximum goes to `i`-th. -/
def maxDev (c : Dev nD) (i : Fin 7) : Dev nD :=
  match i with
  | 0 => ⟨k0_dev15 c, k0_dev15_lt c⟩ | 1 => ⟨k0_dev16 c, k0_dev16_lt c⟩ | 2 => ⟨k0_dev17 c, k0_dev17_lt c⟩
  | 3 => ⟨k0_dev18 c, k0_dev18_lt c⟩ | 4 => ⟨k0_dev19 c, k0_dev19_lt c⟩ | 5 => ⟨k0_dev20 c, k0_dev20_lt c⟩
  | 6 => ⟨k0_dev21 c, k0_dev21_lt c⟩

/-! ## Views -/

/-- Where the weight tile of block `d`, columns `n`, lies. -/
def wOff (c : Dev nD) (d n : Fin 8) : Fin 2 → Nat :=
  match n with
  | 0 => k0_off7 c (BitVec.ofNat 32 d.val) | 1 => k0_off8 c (BitVec.ofNat 32 d.val)
  | 2 => k0_off9 c (BitVec.ofNat 32 d.val) | 3 => k0_off11 c (BitVec.ofNat 32 d.val)
  | 4 => k0_off12 c (BitVec.ofNat 32 d.val) | 5 => k0_off13 c (BitVec.ofNat 32 d.val)
  | 6 => k0_off14 c (BitVec.ofNat 32 d.val) | 7 => k0_off15 c (BitVec.ofNat 32 d.val)
theorem wOff_inb (c : Dev nD) (d n : Fin 8) : ∀ a, wOff c d n a + S512x1024.size a ≤ S4096x8192.size a :=
  match n with
  | 0 => k0_off7_inb c d | 1 => k0_off8_inb c d | 2 => k0_off9_inb c d | 3 => k0_off11_inb c d
  | 4 => k0_off12_inb c d | 5 => k0_off13_inb c d | 6 => k0_off14_inb c d | 7 => k0_off15_inb c d

/-- The slot of the weight buffer a tile is copied into. -/
def wSlot (d n : Fin 8) : Fin 3 := ⟨(8 * d.val + n.val) % 3, Nat.mod_lt _ (by decide)⟩

abbrev wView (c : Dev nD) (d n : Fin 8) : Memref sig .tc .hbm S512x1024 .f32 :=
  wM.slice (Rect.unit (s := S4096x8192) (wOff c d n) S512x1024.size (wOff_inb c d n)) (fun _ => rfl)
abbrev vRect (s : Fin 3) : Rect S3x512x1024 :=
  Rect.unit (s := S3x512x1024) ![s.val, 0, 0] S1x512x1024.size (inb_slot s)
abbrev vView (s : Fin 3) : Memref sig .tc .vmem S512x1024 .f32 :=
  (vM.slice (vRect s) (fun _ => rfl)).squeeze S512x1024 squeezes_S1x512x1024_S512x1024
abbrev tile (n : Fin 8) : Rect S512x8192 :=
  Rect.unit (s := S512x8192) ![0, 1024 * n.val] S512x1024.size (inb_tile n)
/-- Rows of `x` for the device `i + 1` further on. -/
abbrev xRect (c : Dev nD) (i : Fin 7) : Rect S4096x512 :=
  Rect.unit (s := S4096x512) (k0_off1 c (BitVec.ofNat 32 (1 + i.val))) S512x512.size (k0_off1_inb c i)
abbrev bView (c : Dev nD) (i : Fin 7) : Memref sig .tc .vmem S512x512 .bf16 :=
  bM.slice (Rect.unit (s := S4096x512) (k0_off4 c (BitVec.ofNat 32 (1 + i.val))) S512x512.size (k0_off4_inb c i)) (fun _ => rfl)
/-- The columns of the gathered block that device `c` fills on its peers. -/
abbrev gOwn (c : Dev nD) : Memref sig .tc .vmem S512x512 .bf16 :=
  gM.slice (Rect.unit (s := S512x4096) (k0_off3 c) S512x512.size (k0_off3_inb c)) (fun _ => rfl)
/-- The columns that the device `i + 1` further on fills on device `c`. -/
abbrev gFrom (c : Dev nD) (i : Fin 7) : Memref sig .tc .vmem S512x512 .bf16 :=
  gM.slice (Rect.unit (s := S512x4096) (k0_off17 c (BitVec.ofNat 32 (1 + i.val))) S512x512.size (k0_off17_inb c i)) (fun _ => rfl)
abbrev aOwn (c : Dev nD) : Memref sig .tc .vmem S1x128 .f32 :=
  aM.slice (Rect.unit (s := S8x128) (k0_off19 c) S1x128.size (k0_off19_inb c)) (fun _ => rfl)
abbrev aFrom (c : Dev nD) (i : Fin 7) : Memref sig .tc .vmem S1x128 .f32 :=
  aM.slice (Rect.unit (s := S8x128) (k0_off20 c (BitVec.ofNat 32 (1 + i.val))) S1x128.size (k0_off20_inb c i)) (fun _ => rfl)

/-! ## The steps -/

/-- Tell the device `i + 1` further on that this one is inside. -/
def stSignal (c : Dev nD) (i : Fin 7) (_ : PUnit) : Pg F PUnit := semSignalWord (sigDev c i) barS 1#32

/-- Round a block of rows of `x` and send it on its way. -/
def stSend (c : Dev nD) (i : Fin 7) (_ : PUnit) : Pg F PUnit := do
  let v ← Prog.lift (.load xM (xRect c i).toLoadRect (View.loadsAt_vmem h_S512x512))
  let _ ← Prog.lift (.load bM (xRect c i).toLoadRect (View.loadsAt_vmem h_S512x512))
  Prog.lift (.store bM (xRect c i) (k0_pay1 v) Finset.univ
    (View.stores_vmem h_S512x512 ((Memref.isWhole_whole cc0_scratch0).storeExact_slice rfl _ (k0_off1_packedbf16 c i)) (fun _ => rfl)) (.inl rfl))
  Prog.lift (.enqueueDma (bView c i) (.remote (Dev.tc (sendDev c i)) (gOwn c) (.dma (slotSem cc0_scratch5 i.succ)))
    (.dma (ownSem cc0_scratch6 c))
    ((Memref.isWhole_whole cc0_scratch0).wordExact_slice rfl _ (k0_off4_wordsbf16 c i))
    ((Memref.isWhole_whole cc0_scratch1).wordExact_slice rfl _ (k0_off3_wordsbf16 c)) ⟨⟨rfl, Or.inl rfl⟩, trivial⟩)

/-- Round this device's own rows in place. -/
def stOwn (c : Dev nD) : Pg F PUnit := do
  let v ← Prog.lift (.load xM (Rect.unit (s := S4096x512) (k0_off5 c) S512x512.size (k0_off5_inb c)).toLoadRect (View.loadsAt_vmem h_S512x512))
  let _ ← Prog.lift (.load gM (Rect.unit (s := S512x4096) (k0_off6 c) S512x512.size (k0_off6_inb c)).toLoadRect (View.loadsAt_vmem h_S512x512))
  Prog.lift (.store gM (Rect.unit (s := S512x4096) (k0_off6 c) S512x512.size (k0_off6_inb c)) (k0_pay8 v) Finset.univ
    (View.stores_vmem h_S512x512 ((Memref.isWhole_whole cc0_scratch1).storeExact_slice rfl _ (k0_off6_packedbf16 c)) (fun _ => rfl)) (.inl rfl))

/-- Start the copy of a weight tile. -/
def stStart (c : Dev nD) (d n : Fin 8) : Pg F PUnit :=
  Prog.lift (.enqueueDma (wView c d n) (.here (vView (wSlot d n))) (.dma (wSem (wSlot d n)))
    (View.wordExact_bits rfl) ((View.wordExact_bits rfl).reshape _ _) ⟨Or.inl rfl, trivial⟩)

/-- Start the copy two tiles ahead, if there is one. -/
def stAhead (c : Dev nD) (d n : Fin 8) : Pg F PUnit :=
  if h : n.val + 2 < 8 then stStart c d ⟨n.val + 2, h⟩
  else if h' : d.val + 1 < 8 then stStart c ⟨d.val + 1, h'⟩ ⟨n.val + 2 - 8, by omega⟩
  else pure ⟨⟩

/-- Wait for the block of the device `i + 1` further on. -/
def stArrive (c : Dev nD) (i : Fin 7) : Pg F PUnit :=
  Prog.lift (.waitDma2 (fromSem cc0_scratch6 c i)
    (bM.slice (Rect.unit (s := S4096x512) ![0, 0] S512x512.size inb_S4096x512_S512x512_0_0) (fun _ => rfl)) (gFrom c i)
    ((Memref.isWhole_whole cc0_scratch0).wordExact_slice rfl _ wordsbf16_S4096x512_S512x512_0_0)
    ((Memref.isWhole_whole cc0_scratch1).wordExact_slice rfl _ (k0_off17_wordsbf16 c i)))

/-- Multiply one block by one weight tile, into the columns of the result it belongs to. -/
def stMul (c : Dev nD) (d n : Fin 8) : Pg F PUnit := do
  Prog.lift (.waitDma2 (wSem (wSlot d n)) (wView c d n) (vView (wSlot d n))
    (View.wordExact_bits rfl) ((View.wordExact_bits rfl).reshape _ _))
  let w ← Prog.lift (.load vM (vRect (wSlot d n)).toLoadRect (View.loadsAt_vmem h_S1x512x1024))
  let g ← Prog.lift (.load gM (Rect.unit (s := S512x4096) (k0_off10 c (BitVec.ofNat 32 d.val)) S512x512.size (k0_off10_inb c d)).toLoadRect (View.loadsAt_vmem h_S512x512))
  match d with
  | ⟨0, _⟩ => do
    let _ ← Prog.lift (.load oM (tile n).toLoadRect (View.loadsAt_vmem h_S512x1024))
    Prog.lift (.store oM (tile n) (k0_pay9 w g) Finset.univ (View.stores_vmem_bits_univ h_S512x1024 rfl) (.inl rfl))
  | ⟨_ + 1, _⟩ => do
    let o ← Prog.lift (.load oM (tile n).toLoadRect (View.loadsAt_vmem h_S512x1024))
    let _ ← Prog.lift (.load oM (tile n).toLoadRect (View.loadsAt_vmem h_S512x1024))
    Prog.lift (.store oM (tile n) (k0_pay18 w g o) Finset.univ (View.stores_vmem_bits_univ h_S512x1024 rfl) (.inl rfl))

/-- One turn of the inner loop. -/
def stPiece (c : Dev nD) (d n : Fin 8) (_ : PUnit) : Pg F PUnit := do
  stAhead c d n
  stMul c d n

/-- One block of the inner dimension, all the columns. -/
def stBlock (c : Dev nD) (d : Fin 8) (_ : PUnit) : Pg F PUnit := do
  match d with
  | ⟨0, _⟩ => pure ⟨⟩
  | ⟨i + 1, h⟩ => stArrive c ⟨i, Nat.lt_of_succ_lt_succ h⟩
  turns (stPiece c d) eights ⟨⟩

/-- The largest entry of a tile after the clamp at zero. -/
def tileMax (v : Vec F S512x1024 .f32) : F .f32 :=
  extractAt ![0, 0, 0] (shapeCast S1x1x1 (multiReduction .maximumf [1, 2] S1
    (shapeCast S1x512x1024 (k0_pay101 v) shapeCasts_S512x1024_S1x512x1024) 0xFF800000#32 reduces_S1x512x1024_S1 (.inl rfl) rfl)
    shapeCasts_S1_S1x1x1) inpos_S1x1x1_p0_0_0

/-- Clamp a tile at zero and take its largest entry into account. -/
def stRelu (n : Fin 8) (a : F .f32) : Pg F (F .f32) := do
  let v ← Prog.lift (.load oM (tile n).toLoadRect (View.loadsAt_vmem h_S512x1024))
  let _ ← Prog.lift (.load oM (tile n).toLoadRect (View.loadsAt_vmem h_S512x1024))
  Prog.lift (.store oM (tile n) (k0_pay101 v) Finset.univ (View.stores_vmem_bits_univ h_S512x1024 rfl) (.inl rfl))
  pure (Scalar.maximumf a (tileMax v))

/-- Write this device's maximum into its row. -/
def stRow (c : Dev nD) (a : F .f32) : Pg F PUnit := do
  let _ ← Prog.lift (.load aM (Rect.unit (s := S8x128) (k0_off18 c) S1x128.size (k0_off18_inb c)).toLoadRect (View.loadsAt_vmem h_S1x128))
  Prog.lift (.store aM (Rect.unit (s := S8x128) (k0_off18 c) S1x128.size (k0_off18_inb c))
    (shapeCast S1x128 (broadcast S1x128 a : FVec F S1x128 .f32) shapeCasts_S1x128_S1x128) Finset.univ (View.stores_vmem_bits_univ h_S1x128 rfl) (.inl rfl))

/-- Send that row on. -/
def stSendMax (c : Dev nD) (i : Fin 7) (_ : PUnit) : Pg F PUnit :=
  Prog.lift (.enqueueDma (aOwn c) (.remote (Dev.tc (maxDev c i)) (aOwn c) (.dma (slotSem cc0_scratch7 i.succ)))
    (.dma (ownSem cc0_scratch8 c)) (View.wordExact_bits rfl) (View.wordExact_bits rfl) ⟨⟨rfl, Or.inl rfl⟩, trivial⟩)

/-- Wait for the row of the device `i + 1` further on. -/
def stMaxArrive (c : Dev nD) (i : Fin 7) (_ : PUnit) : Pg F PUnit :=
  Prog.lift (.waitDma2 (fromSem cc0_scratch8 c i) (aFrom c i) (aFrom c i) (View.wordExact_bits rfl) (View.wordExact_bits rfl))

/-- Quantise a tile at the common scale and scale it back. -/
def stQuant (n : Fin 8) (s : FVec F S1 .f32) : Pg F (FVec F S1 .f32) := do
  let v ← Prog.lift (.load oM (tile n).toLoadRect (View.loadsAt_vmem h_S512x1024))
  let _ ← Prog.lift (.load oM (tile n).toLoadRect (View.loadsAt_vmem h_S512x1024))
  Prog.lift (.store oM (tile n) (k0_pay114 s v) Finset.univ (View.stores_vmem_bits_univ h_S512x1024 rfl) (.inl rfl))
  pure s

/-- Wait until a block sent has left. -/
def stSent (c : Dev nD) (i : Fin 7) (_ : PUnit) : Pg F PUnit :=
  Prog.lift (.waitDma2 (slotSem cc0_scratch5 i.succ) (gOwn c) (bView c i)
    ((Memref.isWhole_whole cc0_scratch1).wordExact_slice rfl _ (k0_off3_wordsbf16 c))
    ((Memref.isWhole_whole cc0_scratch0).wordExact_slice rfl _ (k0_off4_wordsbf16 c i)))

/-- Wait until a row sent has left. -/
def stMaxSent (c : Dev nD) (i : Fin 7) (_ : PUnit) : Pg F PUnit :=
  Prog.lift (.waitDma2 (slotSem cc0_scratch7 i.succ) (aOwn c) (aOwn c) (View.wordExact_bits rfl) (View.wordExact_bits rfl))

/-- The body at device `c`. -/
def stBody (c : Dev nD) : Pg F PUnit := do
  turns (stSignal c) sevens ⟨⟩
  semWaitWord barS 7#32
  turns (stSend c) sevens ⟨⟩
  stOwn c
  stStart c 0 0
  stStart c 0 1
  turns (stBlock c) eights ⟨⟩
  let a ← turns stRelu eights (Scalar.ofBits .f32 0x00000000#32)
  stRow c a
  turns (stSendMax c) sevens ⟨⟩
  turns (stMaxArrive c) sevens ⟨⟩
  let v ← Prog.lift (.load aM (Rect.unit (s := S8x128) ![0, 0] S8x1.size inb_S8x128_S8x1_0_0).toLoadRect (View.loadsAt_vmem h_S8x1))
  let _ ← turns stQuant eights (k0_pay112 v)
  turns (stSent c) sevens ⟨⟩
  turns (stMaxSent c) sevens ⟨⟩

end Cert.KernelIdeal.K
end
-- ==== Proof.Base.lean ====
/- The resource algebra of the proof, assertions about views, and the rule for a loop. -/
module

public import proofs.«01_k».proof.Proof.Steps
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging's, the devices' protocol, the local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb : UEmb UU (MT nD τ sig Unit (Elt F) ℕ UU ℕ)).toEmb
abbrev EC : UEmb Counters (MT nD τ sig Unit (Elt F) ℕ UU ℕ) := countersEmb

abbrev 𝒱₀ : Variants := Variants.none

/-- The weakest precondition of a program of device `c`. -/
abbrev WP (c : Dev nD) {α : Type} (p : Pg F α) (Q : α → sProp 𝕄) : sProp 𝕄 :=
  wp frame (wpE (defs₀ (F := F)) 𝒱₀ (c : Thread nD τ) none) Set.univ p Q

/-! ## Loops -/

/-- What isn't needed by a program is kept. -/
theorem wp_keep {α : Type} (c : Dev nD) {p : Pg F α} {P M : sProp 𝕄} {N Q : α → sProp 𝕄}
    (h₁ : P ⊢ WP c p N) (h₂ : ∀ a, iprop(N a ∗ M) ⊢ Q a) : iprop(P ∗ M) ⊢ WP c p Q :=
  (sep_mono_left h₁).trans ((wp_frame_r _ _ _).trans (wp_mono _ _ _ h₂))

/-- One program after another. -/
theorem wp_seq {α β : Type} (c : Dev nD) {p : Pg F α} {k : α → Pg F β} {P M : sProp 𝕄} {N : α → sProp 𝕄} {Q : β → sProp 𝕄}
    (h₁ : P ⊢ WP c p N) (h₂ : ∀ a, iprop(N a ∗ M) ⊢ WP c (k a) Q) : iprop(P ∗ M) ⊢ WP c (p >>= k) Q := by
  unfold WP
  rw [wp_bind]
  exact wp_keep c h₁ h₂

omit [FloatOps F] in
theorem bigSep_ins {I : Type} [DecidableEq I] {s : Finset I} {i : I} (hi : i ∉ s) (Φ : I → sProp 𝕄) :
    bigSep (insert i s) Φ = iprop(Φ i ∗ bigSep s Φ) := bigSep_insert hi

/-- A loop: an invariant `R`, turn by turn, each turn with its own resources `Pre`, left as `Post`. -/
theorem wp_turns {ι σ : Type} [DecidableEq ι] (c : Dev nD) (f : ι → σ → Pg F σ) (num : ι → ℕ)
    (R : ℕ → σ → sProp 𝕄) (Pre Post : ι → sProp 𝕄)
    (h : ∀ i s, iprop(R (num i) s ∗ Pre i) ⊢ WP c (f i s) (fun s' => iprop(R (num i + 1) s' ∗ Post i))) :
    ∀ (l : List ι) (k : ℕ) (s : σ), l.Nodup → l.map num = List.range' k l.length →
      iprop(R k s ∗ bigSep l.toFinset Pre) ⊢ WP c (turns f l s) (fun s' => iprop(R (k + l.length) s' ∗ bigSep l.toFinset Post)) := by
  intro l
  induction l with
  | nil =>
    intro k s _ _
    show _ ⊢ WP c (pure s) _
    simp only [Prog.pure_eq_ret, wp_ret, List.toFinset_nil, bigSep_empty, List.length_nil, Nat.add_zero]
    iintro H; imodintro; iexact H
  | cons i l ih =>
    intro k s hn hr
    obtain ⟨hi, hl⟩ := List.nodup_cons.mp hn
    rw [List.map_cons, List.length_cons, List.range'_succ] at hr
    obtain ⟨hk, hr⟩ := List.cons.inj hr
    show _ ⊢ WP c (f i s >>= turns f l) _
    subst hk
    rw [List.toFinset_cons, bigSep_ins (by rwa [List.mem_toFinset]), bigSep_ins (by rwa [List.mem_toFinset])]
    refine sep_assoc.2.trans (wp_seq c (h i s) fun s' => ?_)
    refine BIBase.Entails.trans ?_ (wp_keep c (M := Post i) (ih (num i + 1) s' hl hr) fun s'' => ?_)
    · iintro ⟨⟨HR, HP⟩, HL⟩
      isplitl [HR HL]
      · isplitl [HR] <;> iassumption
      · iexact HP
    · rw [List.length_cons, show num i + (l.length + 1) = num i + 1 + l.length by omega]
      iintro ⟨⟨HR, HL⟩, HP⟩
      isplitl [HR]; · iexact HR
      isplitl [HP] <;> iassumption

theorem wp_sevens {σ : Type} (c : Dev nD) (f : Fin 7 → σ → Pg F σ) (R : ℕ → σ → sProp 𝕄) (Pre Post : Fin 7 → sProp 𝕄)
    (h : ∀ i s, iprop(R i.val s ∗ Pre i) ⊢ WP c (f i s) (fun s' => iprop(R (i.val + 1) s' ∗ Post i))) (s : σ) :
    iprop(R 0 s ∗ bigSep Finset.univ Pre) ⊢ WP c (turns f sevens s) (fun s' => iprop(R 7 s' ∗ bigSep Finset.univ Post)) := by
  have := wp_turns c f Fin.val R Pre Post h sevens 0 s (by decide) (by decide)
  rw [show sevens.toFinset = (Finset.univ : Finset (Fin 7)) from by decide] at this
  exact this

theorem wp_eights {σ : Type} (c : Dev nD) (f : Fin 8 → σ → Pg F σ) (R : ℕ → σ → sProp 𝕄) (Pre Post : Fin 8 → sProp 𝕄)
    (h : ∀ i s, iprop(R i.val s ∗ Pre i) ⊢ WP c (f i s) (fun s' => iprop(R (i.val + 1) s' ∗ Post i))) (s : σ) :
    iprop(R 0 s ∗ bigSep Finset.univ Pre) ⊢ WP c (turns f eights s) (fun s' => iprop(R 8 s' ∗ bigSep Finset.univ Post)) := by
  have := wp_turns c f Fin.val R Pre Post h eights 0 s (by decide) (by decide)
  rw [show eights.toFinset = (Finset.univ : Finset (Fin 8)) from by decide] at this
  exact this

/-! ## What a view reads -/

/-- Share `q` of a view's elements, reading `X` through it. -/
def Has (c : Dev nD) {sp : Space} {sh : Shape} {e : EltTy} (v : View sig .tc sp sh e) (q : PosShare TreeShare)
    (X : sh.Idx → Elt F e) : sProp 𝕄 :=
  iprop(∃ f : Buf (Elt F) (v.loc (c : Thread nD τ)), ⌜v.read (Elt F) f = X⌝ ∗ (v.loc (c : Thread nD τ) ↦[v.set]{q} f))

/-- A view's elements at some contents. -/
def Any (c : Dev nD) {sp : Space} {sh : Shape} {e : EltTy} (v : View sig .tc sp sh e) : sProp 𝕄 :=
  iprop(∃ f : Buf (Elt F) (v.loc (c : Thread nD τ)), (v.loc (c : Thread nD τ) ↦[v.set]{fullShare} f))

omit [FloatOps F] in
instance Has_storable (c : Dev nD) {sp : Space} {sh : Shape} {e : EltTy} (v : View sig .tc sp sh e) (q) (X : sh.Idx → Elt F e) :
    BI.Storable (upEmb : UEmb _ 𝕄) (Has (F := F) c v q X) := by unfold Has; infer_instance
omit [FloatOps F] in
instance Any_storable (c : Dev nD) {sp : Space} {sh : Shape} {e : EltTy} (v : View sig .tc sp sh e) :
    BI.Storable (upEmb : UEmb _ 𝕄) (Any (F := F) c v) := by unfold Any; infer_instance

omit [FloatOps F] in
theorem Has_any (c : Dev nD) {sp : Space} {sh : Shape} {e : EltTy} (v : View sig .tc sp sh e) (X : sh.Idx → Elt F e) :
    Has c v fullShare X ⊢ Any c v := by
  unfold Has Any
  iintro ⟨%f, %_, H⟩; iexists f; iexact H

theorem wp_load_has (c : Dev nD) {cs : CoreSpace} {s : Shape} {e : EltTy} {m : Memref sig .tc cs s e} {r : Rect s}
    {hl : m.view.LoadsAt r.toLoadRect} {α : Type} {k : (r.shape.Idx → Elt F e) → Pg F α} {Q : α → sProp 𝕄}
    {q : PosShare TreeShare} {X : r.shape.Idx → Elt F e} :
    Has c (m.access r) q X ⊢ iprop((Has c (m.access r) q X -∗ WP c (k X) Q) -∗ WP c (.op (.load m r.toLoadRect hl) k) Q) := by
  unfold Has
  iintro ⟨%f, %hf, H⟩ Hk
  iapply (wp_load_rect 𝒱₀ (c : Thread nD τ) none Set.univ (m := m) (r := r) (Finset.Subset.refl _)) $$ H
  iintro H
  rw [hf]
  iapply Hk
  iexists f
  isplitr; · ipureintro; exact hf
  iexact H

/-- A load whose value isn't used. -/
theorem wp_load_any (c : Dev nD) {cs : CoreSpace} {s : Shape} {e : EltTy} {m : Memref sig .tc cs s e} {r : Rect s}
    {hl : m.view.LoadsAt r.toLoadRect} {α : Type} {k : Pg F α} {Q : α → sProp 𝕄} :
    Any c (m.access r) ⊢ iprop((Any c (m.access r) -∗ WP c k Q) -∗ WP c (.op (.load m r.toLoadRect hl) (fun _ => k)) Q) := by
  unfold Any
  iintro ⟨%f, H⟩ Hk
  iapply (wp_load_rect 𝒱₀ (c : Thread nD τ) none Set.univ (m := m) (r := r) (Finset.Subset.refl _)) $$ H
  iintro H
  iapply Hk
  iexists f
  iexact H

theorem wp_store_any (c : Dev nD) {cs : CoreSpace} {s : Shape} {e : EltTy} {m : Memref sig .tc cs s e} {r : Rect s}
    {w : r.shape.Idx → Elt F e} {hx : (m.access r).Stores Finset.univ} {hm : (Finset.univ : Finset r.shape.Idx) = Finset.univ ∨ ∀ a, r.stride a = 1}
    {α : Type} {k : PUnit → Pg F α} {Q : α → sProp 𝕄} :
    Any c (m.access r) ⊢ iprop((Has c (m.access r) fullShare w -∗ WP c (k ⟨⟩) Q) -∗ WP c (.op (.store m r w Finset.univ hx hm) k) Q) := by
  unfold Any Has
  iintro ⟨%f, H⟩ Hk
  iapply (wp_store 𝒱₀ (c : Thread nD τ) none Set.univ (m := m) (r := r) (Mk := Finset.univ) (S := (m.access r).set) (Finset.Subset.refl _)) $$ H
  iintro H
  iapply Hk
  iexists _
  isplitr
  rotate_left
  · iexact H
  · ipureintro; exact View.read_write_univ _ _

end Cert.KernelIdeal.K
end
-- ==== Proof.Proto.lean ====
/- The devices' protocol: who hands what to whom, through which semaphore. -/
module

public import proofs.«01_k».proof.Proof.Base

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The devices, in the order each meets the others -/

set_option backward.proofsInPublic true in
/-- The device `d` further on. -/
def blk (c : Dev nD) (d : ℕ) : Dev nD := ⟨(c.val + d) % 8, Nat.mod_lt _ (by decide)⟩
/-- The `i`-th of the other devices. -/
abbrev peer (c : Dev nD) (i : Fin 7) : Dev nD := blk c (i.val + 1)
/-- Where this device stands in the order of its `i`-th peer. -/
def rv (i : Fin 7) : Fin 7 := Fin.rev i

theorem peer_peer (c : Dev nD) (i : Fin 7) : peer (peer c i) (rv i) = c := by revert c i; decide
theorem rv_rv (i : Fin 7) : rv (rv i) = i := Fin.rev_rev i
theorem peer_ne (c : Dev nD) (i : Fin 7) : peer c i ≠ c := by revert c i; decide
theorem peer_inj (c : Dev nD) : Function.Injective (peer c) := by revert c; decide
theorem blk_zero (c : Dev nD) : blk c 0 = c := by revert c; decide
theorem blk_succ (c : Dev nD) (i : Fin 7) : blk c i.succ.val = peer c i := rfl

/-- Each device is met from each other one: an involution of the pairs. -/
def swapPair : Dev nD × Fin 7 ≃ Dev nD × Fin 7 where
  toFun p := (peer p.1 p.2, rv p.2)
  invFun p := (peer p.1 p.2, rv p.2)
  left_inv p := Prod.ext (peer_peer p.1 p.2) (rv_rv p.2)
  right_inv p := Prod.ext (peer_peer p.1 p.2) (rv_rv p.2)

theorem univ_peers (c : Dev nD) : (Finset.univ : Finset (Dev nD)) = insert c ((Finset.univ : Finset (Fin 7)).map ⟨peer c, peer_inj c⟩) := by
  revert c; decide
omit [FloatOps F] in
/-- Over all devices: this one, and the others in its order. -/
theorem split8 (c : Dev nD) (Φ : Dev nD → sProp 𝕄) :
    bigSep Finset.univ Φ = iprop(Φ c ∗ bigSep Finset.univ (fun i : Fin 7 => Φ (peer c i))) := by
  rw [univ_peers c, bigSep_ins (by
    rw [Finset.mem_map]; rintro ⟨i, -, hi⟩; exact peer_ne c i hi), bigSep_map]; rfl

theorem sigDev_eq (c : Dev nD) (i : Fin 7) : sigDev c i = peer c i := by
  fin_cases i <;> refine Fin.ext ?_
  · exact k0_dev1_eq c
  · exact k0_dev2_eq c
  · exact k0_dev3_eq c
  · exact k0_dev4_eq c
  · exact k0_dev5_eq c
  · exact k0_dev6_eq c
  · exact k0_dev7_eq c
theorem sendDev_eq (c : Dev nD) (i : Fin 7) : sendDev c i = peer c i := by
  fin_cases i <;> refine Fin.ext ?_
  · exact k0_dev8_eq c
  · exact k0_dev9_eq c
  · exact k0_dev10_eq c
  · exact k0_dev11_eq c
  · exact k0_dev12_eq c
  · exact k0_dev13_eq c
  · exact k0_dev14_eq c
theorem maxDev_eq (c : Dev nD) (i : Fin 7) : maxDev c i = peer c i := by
  fin_cases i <;> refine Fin.ext ?_
  · exact k0_dev15_eq c
  · exact k0_dev16_eq c
  · exact k0_dev17_eq c
  · exact k0_dev18_eq c
  · exact k0_dev19_eq c
  · exact k0_dev20_eq c
  · exact k0_dev21_eq c

/-! ## The parts of the buffers -/

theorem inb_X (s : Fin 8) : ∀ a, (![512 * s.val, 0] : Fin 2 → Nat) a + S512x512.size a ≤ S4096x512.size a := by revert s; decide
theorem inb_G (s : Fin 8) : ∀ a, (![0, 512 * s.val] : Fin 2 → Nat) a + S512x512.size a ≤ S512x4096.size a := by revert s; decide
theorem inb_A (s : Fin 8) : ∀ a, (![s.val, 0] : Fin 2 → Nat) a + S1x128.size a ≤ S8x128.size a := by revert s; decide
theorem inb_W (s n : Fin 8) : ∀ a, (![512 * s.val, 1024 * n.val] : Fin 2 → Nat) a + S512x1024.size a ≤ S4096x8192.size a := by revert s n; decide

/-- Rows of device `s`'s part. -/
abbrev rX (s : Fin 8) : Rect S4096x512 := Rect.unit (s := S4096x512) ![512 * s.val, 0] S512x512.size (inb_X s)
/-- Columns filled by device `s`. -/
abbrev rG (s : Fin 8) : Rect S512x4096 := Rect.unit (s := S512x4096) ![0, 512 * s.val] S512x512.size (inb_G s)
/-- Device `s`'s row of the maxima. -/
abbrev rA (s : Fin 8) : Rect S8x128 := Rect.unit (s := S8x128) ![s.val, 0] S1x128.size (inb_A s)
/-- The weight tile of block `s`, columns `n`. -/
abbrev rW (s n : Fin 8) : Rect S4096x8192 := Rect.unit (s := S4096x8192) ![512 * s.val, 1024 * n.val] S512x1024.size (inb_W s n)

abbrev xV (s : Fin 8) : View sig .tc .vmem S512x512 .f32 := xM.view.slice (rX s)
abbrev bV (s : Fin 8) : View sig .tc .vmem S512x512 .bf16 := bM.view.slice (rX s)
abbrev gV (s : Fin 8) : View sig .tc .vmem S512x512 .bf16 := gM.view.slice (rG s)
abbrev aV (s : Fin 8) : View sig .tc .vmem S1x128 .f32 := aM.view.slice (rA s)
abbrev wV (s n : Fin 8) : View sig .tc .hbm S512x1024 .f32 := wM.view.slice (rW s n)
abbrev vV (s : Fin 3) : View sig .tc .vmem S1x512x1024 .f32 := vM.view.slice (vRect s)
abbrev oV (n : Fin 8) : View sig .tc .vmem S512x1024 .f32 := oM.view.slice (tile n)

theorem bView_eq (c : Dev nD) (i : Fin 7) : (bView c i).view = bV (peer c i) :=
  congrArg Memref.view (Memref.slice_unit_congr bM (k0_off4_eq c i) _ (inb_X (peer c i)) _ (fun _ => rfl))
theorem gOwn_eq (c : Dev nD) : (gOwn c).view = gV c :=
  congrArg Memref.view (Memref.slice_unit_congr gM (k0_off3_eq c) _ (inb_G c) _ (fun _ => rfl))
theorem aOwn_eq (c : Dev nD) : (aOwn c).view = aV c :=
  congrArg Memref.view (Memref.slice_unit_congr aM (k0_off19_eq c) _ (inb_A c) _ (fun _ => rfl))
theorem wOff_eq (c : Dev nD) (d n : Fin 8) : wOff c d n = ![512 * (blk c d.val).val, 1024 * n.val] := by
  fin_cases n
  · exact k0_off7_eq c d
  · exact k0_off8_eq c d
  · exact k0_off9_eq c d
  · exact k0_off11_eq c d
  · exact k0_off12_eq c d
  · exact k0_off13_eq c d
  · exact k0_off14_eq c d
  · exact k0_off15_eq c d
theorem wView_eq (c : Dev nD) (d n : Fin 8) : (wView c d n).view = wV (blk c d.val) n :=
  congrArg Memref.view (Memref.slice_unit_congr wM (wOff_eq c d n) _ (inb_W (blk c d.val) n) _ (fun _ => rfl))
theorem ownSem_eq (A : DmaSems sig S8) (c : Dev nD) : ownSem A c = slotSem A c :=
  congrArg (fun B : SemArray (DmaSem sig) S1 => (B.squeeze S_ squeezes_S1_S_).sem)
    (SemArray.slice_unit_congr A (k0_off2_eq c) _ (inb_S8_S1 c))
theorem fromSem_eq (A : DmaSems sig S8) (c : Dev nD) (i : Fin 7) : fromSem A c i = slotSem A (peer c i) :=
  congrArg (fun B : SemArray (DmaSem sig) S1 => (B.squeeze S_ squeezes_S1_S_).sem)
    (SemArray.slice_unit_congr A (k0_off16_eq c i) _ (inb_S8_S1 (peer c i)))

/-! ## The semaphores of the exchange -/

/-- Blocks leaving, blocks coming, maxima leaving, maxima coming. -/
abbrev arr (k : Fin 4) : DmaSems sig S8 :=
  match k with | 0 => cc0_scratch5 | 1 => cc0_scratch6 | 2 => cc0_scratch7 | 3 => cc0_scratch8
abbrev xsem (k : Fin 4) (s : Fin 8) : DmaSem sig := slotSem (arr k) s

set_option backward.proofsInPublic true in
/-- Which of these a semaphore is. -/
def kindOf (q : DmaSem sig) : Option (Fin 4 × Fin 8) :=
  if 5 ≤ q.val ∧ q.val < 37 then some (⟨(q.val - 5) / 8 % 4, Nat.mod_lt _ (by decide)⟩, ⟨(q.val - 5) % 8, Nat.mod_lt _ (by decide)⟩) else none

theorem kindOf_xsem (k : Fin 4) (s : Fin 8) : kindOf (xsem k s) = some (k, s) := by revert k s; decide
theorem kindOf_wSem (s : Fin 3) : kindOf (wSem s) = none := by revert s; decide

/-- The slot of array `k` that device `c` uses with its `i`-th peer. -/
def sl (k : Fin 4) (c : Dev nD) (i : Fin 7) : Fin 8 := match k with | 0 => i.succ | 1 => peer c i | 2 => i.succ | 3 => peer c i

abbrev barCell (c : Dev nD) : GSem nD τ sig := ((c : Thread nD τ), .reg barS)
abbrev xCell (k : Fin 4) (c : Dev nD) (s : Fin 8) : GSem nD τ sig := ((c : Thread nD τ), .dma (xsem k s))

/-- The cells of the protocol, by device: the runtime's barrier, and four with each of the others. -/
abbrev Ck := Option (Fin 4 × Fin 7)
abbrev csem (c : Dev nD) : Ck → SemLoc sig
  | none => .reg barS
  | some (k, i) => .dma (xsem k (sl k c i))
abbrev kcell (p : Dev nD × Ck) : GSem nD τ sig := ((p.1 : Thread nD τ), csem p.1 p.2)

/-- The bytes of a block and of a row of maxima, as the semaphores count them. -/
def NX : ℕ := (gV 0).dmaCredit
def NA : ℕ := (aV 0).dmaCredit
theorem NX_pos : 0 < NX := View.dmaCredit_pos _ (by decide)
theorem NA_pos : 0 < NA := View.dmaCredit_pos _ (by decide)
theorem gV_credit (s : Fin 8) : (gV s).dmaCredit = NX := rfl
theorem bV_credit (s : Fin 8) : (bV s).dmaCredit = NX := rfl
theorem aV_credit (s : Fin 8) : (aV s).dmaCredit = NA := rfl
/-- What a semaphore of array `k` counts up to. -/
def Nk (k : Fin 4) : ℕ := if k.val < 2 then NX else NA
theorem Nk_pos (k : Fin 4) : 0 < Nk k := by unfold Nk; split; exacts [NX_pos, NA_pos]

/-! ## Contents -/

/-- Device `c`'s columns of `x`. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s weights. -/
def wst (c : Dev nD) : (main_arg1 : Ref sig .tc).ty.Contents (Elt F) := m ((c : Thread nD τ).loc main_arg1)
/-- The rows of device `c`'s part, of device `s`'s columns of `x`, rounded. -/
def xbl (s c : Dev nD) : FVec F S512x512 .bf16 := k0_pay1 ((xV c).read (Elt F) (xstg m ρ s))
/-- A weight tile. -/
def wT (c : Dev nD) (s n : Fin 8) : Vec F S512x1024 .f32 := (wV s n).read (Elt F) (wst m c)
/-- A weight tile as the kernel loads it. -/
def wL (c : Dev nD) (s n : Fin 8) : Vec F S1x512x1024 .f32 :=
  fun j => wT m c s n ((Shape.reshapeEquiv squeezes_S1x512x1024_S512x1024.numel_eq).symm j)
/-- Columns `n` of the product, blocks up to `d` of the inner dimension summed. -/
def acc (c : Dev nD) (n : Fin 8) : ℕ → Vec F S512x1024 .f32
  | 0 => k0_pay9 (wL m c (blk c 0) n) (xbl m ρ (blk c 0) c)
  | d + 1 => k0_pay18 (wL m c (blk c (d + 1)) n) (xbl m ρ (blk c (d + 1)) c) (acc c n d)
/-- The running maximum over the tiles. -/
def runMax (c : Dev nD) : ℕ → F .f32
  | 0 => Scalar.ofBits .f32 0x00000000#32
  | n + 1 => Scalar.maximumf (runMax c n) (tileMax (acc m ρ c (Fin.ofNat 8 n) 7))
/-- Device `c`'s maximum. -/
def mx (c : Dev nD) : F .f32 := runMax m ρ c 8
/-- The rows of maxima, all filled. -/
def aFull : (cc0_scratch3 : Ref sig .tc).ty.Contents (Elt F) := fun i => mx m ρ (i 0)
/-- The common scale's numerator, as the kernel computes it. -/
def scl : FVec F S1 .f32 :=
  k0_pay112 ((aM.access (Rect.unit (s := S8x128) ![0, 0] S8x1.size inb_S8x128_S8x1_0_0)).read (Elt F) (aFull m ρ))
/-- Columns `n` of the result. -/
def outT (c : Dev nD) (n : Fin 8) : Vec F S512x1024 .f32 := k0_pay114 (scl m ρ) (k0_pay101 (acc m ρ c n 7))

/-- Share `q` of row `s` of the maxima, on device `c`. -/
def aPts (c : Dev nD) (s : Fin 8) (q : PosShare TreeShare) : sProp 𝕄 :=
  (aV s).loc (c : Thread nD τ) ↦[(aV s).set]{q} (aFull m ρ)

instance aPts_storable (c : Dev nD) (s : Fin 8) (q) : BI.Storable (upEmb : UEmb _ 𝕄) (aPts (F := F) m ρ c s q) := by
  unfold aPts; infer_instance

/-! ## The schedule -/

/-- What `c` gets from its `i`-th peer's arrival: the places it will write on that peer. -/
def barPay (c : Dev nD) (i : Fin 7) : sProp 𝕄 := iprop(Any (peer c i) (gV c) ∗ Any (peer c i) (aV c))
/-- What slot `s` of array `k` hands device `c`. -/
def xPay (k : Fin 4) (c : Dev nD) (s : Fin 8) : sProp 𝕄 :=
  match k with
  | 0 => Any c (bV (blk c s.val))
  | 1 => Has c (gV s) fullShare (xbl m ρ s c)
  | 2 => aPts m ρ c c (Transfers.shareTokN fullShare (s.val - 1))
  | 3 => aPts m ρ c s fullShare

omit [FloatOps F] in
instance barPay_storable (c : Dev nD) (i : Fin 7) : BI.Storable (upEmb : UEmb _ 𝕄) (barPay (F := F) c i) := by
  unfold barPay; infer_instance
instance xPay_storable (k : Fin 4) (c : Dev nD) (s : Fin 8) : BI.Storable (upEmb : UEmb _ 𝕄) (xPay (F := F) m ρ k c s) := by
  unfold xPay; split <;> infer_instance

def semDuties : SemLoc sig → Finset (Fin 7)
  | .reg b => if b = barS then Finset.univ else ∅
  | .dma q => match kindOf q with | some _ => {0} | none => ∅
def semAmount : SemLoc sig → ℕ
  | .reg _ => 1
  | .dma q => match kindOf q with | some p => Nk p.1 | none => 1
def semPay (c : Dev nD) (d : Fin 7) : SemLoc sig → sProp 𝕄
  | .reg _ => barPay c d
  | .dma q => match kindOf q with | some p => xPay m ρ p.1 c p.2 | none => iprop(emp)

/-- One round: a barrier has seven arrivals of one unit, any other cell one transfer. -/
def Rd : Rounds.Schedule (GSem nD τ sig) (Fin 7) 𝕄 where
  duties g r := if r = 0 ∧ g.1.2 = .tc then semDuties g.2 else ∅
  unitless _ := False
  amount g _ _ := semAmount g.2
  payload g _ d := semPay m ρ g.1.1 d g.2
  amount_pos g _ _ _ := by
    unfold semAmount
    split
    · exact Nat.one_pos
    · split
      · exact Nk_pos _
      · exact Nat.one_pos

instance Rd_storable (g : GSem nD τ sig) (r : ℕ) (d : Fin 7) : BI.Storable (upEmb : UEmb _ 𝕄) ((Rd (F := F) m ρ).payload g r d) := by
  show BI.Storable upEmb (semPay m ρ g.1.1 d g.2)
  unfold semPay
  split
  · infer_instance
  · split <;> infer_instance

theorem duties_bar (c : Dev nD) : (Rd (F := F) m ρ).duties (barCell c) 0 = Finset.univ := by
  dsimp only [Rd]; rw [if_pos ⟨rfl, rfl⟩]; dsimp only [semDuties]; exact if_pos rfl
theorem duties_x (k : Fin 4) (c : Dev nD) (s : Fin 8) : (Rd (F := F) m ρ).duties (xCell k c s) 0 = {0} := by
  dsimp only [Rd]; rw [if_pos ⟨rfl, rfl⟩]; dsimp only [semDuties]; rw [kindOf_xsem]
theorem duties_later (g : GSem nD τ sig) : ∀ r, 1 ≤ r → (Rd (F := F) m ρ).duties g r = ∅ :=
  fun r hr => by dsimp only [Rd]; rw [if_neg fun h => by omega]
theorem amount_bar (c : Dev nD) (d : Fin 7) : (Rd (F := F) m ρ).amount (barCell c) 0 d = 1 := rfl
theorem amount_x (k : Fin 4) (c : Dev nD) (s : Fin 8) (d : Fin 7) : (Rd (F := F) m ρ).amount (xCell k c s) 0 d = Nk k := by
  dsimp only [Rd, semAmount]; rw [kindOf_xsem]
theorem payload_bar (c : Dev nD) (d : Fin 7) : (Rd (F := F) m ρ).payload (barCell c) 0 d = barPay c d := rfl
theorem payload_x (k : Fin 4) (c : Dev nD) (s : Fin 8) (d : Fin 7) : (Rd (F := F) m ρ).payload (xCell k c s) 0 d = xPay m ρ k c s := by
  dsimp only [Rd, semPay]; rw [kindOf_xsem]
theorem expect_bar (c : Dev nD) : (Rd (F := F) m ρ).expect (barCell c) 0 = 7 := by
  unfold Schedule.expect Schedule.amountOf
  rw [duties_bar, Finset.sum_congr rfl fun d _ => amount_bar m ρ c d]; rfl
theorem expect_x (k : Fin 4) (c : Dev nD) (s : Fin 8) : (Rd (F := F) m ρ).expect (xCell k c s) 0 = Nk k := by
  unfold Schedule.expect Schedule.amountOf; rw [duties_x, Finset.sum_singleton, amount_x]
theorem rest_bar (c : Dev nD) : bigSep ((Rd (F := F) m ρ).duties (barCell c) 0 \ ∅) (fun d => (Rd (F := F) m ρ).payload (barCell c) 0 d)
    = bigSep Finset.univ (fun d => barPay c d) := by
  rw [Finset.sdiff_empty, duties_bar]; rfl
theorem rest_x (k : Fin 4) (c : Dev nD) (s : Fin 8) :
    bigSep ((Rd (F := F) m ρ).duties (xCell k c s) 0 \ ∅) (fun d => (Rd (F := F) m ρ).payload (xCell k c s) 0 d) = xPay m ρ k c s := by
  rw [Finset.sdiff_empty, duties_x, bigSep_singleton, payload_x]

/-! ## What a device owes, and the levels -/

/-- The turns from the `i`-th on. -/
def rest (f : Fin 7 → CellTallies nD τ sig Unit) (i : ℕ) : CellTallies nD τ sig Unit :=
  ∑ j ∈ Finset.univ.filter (fun j : Fin 7 => i ≤ j.val), f j
theorem rest_step (f : Fin 7 → CellTallies nD τ sig Unit) (i : Fin 7) : rest f i.val = rest f (i.val + 1) + f i := by
  unfold rest
  rw [show Finset.univ.filter (fun j : Fin 7 => i.val ≤ j.val) = insert i (Finset.univ.filter (fun j : Fin 7 => i.val + 1 ≤ j.val)) from by
    revert i; decide, Finset.sum_insert (by simp), add_comm]
theorem rest_end (f : Fin 7 → CellTallies nD τ sig Unit) : rest f 7 = 0 := by
  unfold rest
  rw [show Finset.univ.filter (fun j : Fin 7 => 7 ≤ j.val) = ∅ from by decide, Finset.sum_empty]

def oBar (c : Dev nD) (i : Fin 7) : CellTallies nD τ sig Unit := tallyAt (barCell (peer c i)) () 1
def oX (k : Fin 4) (c : Dev nD) (i : Fin 7) : CellTallies nD τ sig Unit := tallyAt (xCell k (peer c i) c) () (Nk k)
/-- At launch: seven arrivals, seven blocks, seven maxima. -/
def O₀ (c : Dev nD) : CellTallies nD τ sig Unit := rest (oBar c) 0 + (rest (oX 1 c) 0 + rest (oX 3 c) 0)

def L (g : GSem nD τ sig) : Finset Unit := if g.1.2 = .tc then {()} else ∅
def semLv : SemLoc sig → ℕ
  | .reg b => if b = barS then 1 else 0
  | .dma q => match kindOf q with | some (1, _) => 2 | some (3, _) => 3 | _ => 0
/-- The barrier before the blocks before the maxima; the rest lowest. -/
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem semLv_bar : semLv (.reg barS) = 1 := by dsimp only [semLv]; exact if_pos rfl
theorem semLv_x1 (s : Fin 8) : semLv (.dma (xsem 1 s)) = 2 := by dsimp only [semLv]; rw [kindOf_xsem]; rfl
theorem semLv_x3 (s : Fin 8) : semLv (.dma (xsem 3 s)) = 3 := by dsimp only [semLv]; rw [kindOf_xsem]; rfl
theorem semLv_w (s : Fin 3) : semLv (.dma (wSem s)) = 0 := by dsimp only [semLv]; rw [kindOf_wSem]

/-- Everything owed in `O` lies above level `n`. -/
def Above (n : ℕ) (O : CellTallies nD τ sig Unit) : Prop := ∀ g u, 0 < O g u → g.1.2 = .tc ∧ n < lv g ()
theorem Above.zero (n : ℕ) : Above n 0 := fun g u h => absurd h (Nat.lt_irrefl 0)
theorem Above.add {n : ℕ} {A B : CellTallies nD τ sig Unit} (hA : Above n A) (hB : Above n B) : Above n (A + B) := fun g u h => by
  rw [Pi.add_apply, Finsupp.add_apply] at h
  rcases Nat.add_pos_iff_pos_or_pos.mp h with h | h
  · exact hA g u h
  · exact hB g u h
theorem Above.at {n : ℕ} (c : Dev nD) (sm : SemLoc sig) (N : ℕ) (h : n < semLv sm) : Above n (tallyAt ((c : Thread nD τ), sm) () N) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
theorem Above.rest {n : ℕ} {f : Fin 7 → CellTallies nD τ sig Unit} (h : ∀ i, Above n (f i)) (i : ℕ) : Above n (rest f i) :=
  Finset.sum_induction _ (Above n) (fun _ _ => Above.add) (Above.zero n) (fun j _ => h j)

theorem above_bar (c : Dev nD) (i : ℕ) : Above 0 (rest (oBar c) i) :=
  Above.rest (fun j => Above.at _ _ _ (by rw [semLv_bar]; decide)) i
theorem above_x1 (c : Dev nD) (i : ℕ) : Above 1 (rest (oX 1 c) i) :=
  Above.rest (fun j => Above.at _ _ _ (by rw [semLv_x1]; decide)) i
theorem above_x3 (c : Dev nD) (i : ℕ) : Above 2 (rest (oX 3 c) i) :=
  Above.rest (fun j => Above.at _ _ _ (by rw [semLv_x3]; decide)) i
theorem Above.le {n n' : ℕ} {O : CellTallies nD τ sig Unit} (h : Above n O) (hn : n' ≤ n) : Above n' O :=
  fun g u hg => ⟨(h g u hg).1, lt_of_le_of_lt hn (h g u hg).2⟩
theorem above_O₀ (c : Dev nD) : Above 0 (O₀ c) :=
  (above_bar c 0).add (((above_x1 c 0).le (by decide)).add ((above_x3 c 0).le (by decide)))

omit [FloatOps F] in
theorem mayWait (c : Dev nD) (sm : SemLoc sig) (n : ℕ) (O : CellTallies nD τ sig Unit) (hs : semLv sm ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.KernelIdeal.K
end
-- ==== Proof.Exchange.lean ====
/- The steps of the body that concern the other devices. -/
module

public import proofs.«01_k».proof.Proof.Proto

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What every device knows of every cell, and the levels. -/
def Ctx (K : Dev nD × Ck → ℕ) : sProp 𝕄 :=
  iprop(bigSep Finset.univ (fun p : Dev nD × Ck => iprop(cellInv ER (Rd m ρ) (K p) (kcell p) ∗ reached ER (kcell p) 0)) ∗ levAts L lv)

instance Ctx_persistent (K : Dev nD × Ck → ℕ) : BI.Persistent (Ctx (F := F) m ρ K) := by unfold Ctx; infer_instance

theorem ctx_at (K : Dev nD × Ck → ℕ) (p : Dev nD × Ck) :
    Ctx m ρ K ⊢ iprop(cellInv ER (Rd m ρ) (K p) (kcell p) ∗ reached ER (kcell p) 0) := by
  unfold Ctx
  iintro ⟨H, -⟩
  iapply (show bigSep Finset.univ (fun p : Dev nD × Ck => iprop(cellInv ER (Rd m ρ) (K p) (kcell p) ∗ reached ER (kcell p) 0)) ⊢ _
    from bigSep_elim (Finset.mem_univ p)) $$ H
theorem ctx_lev (K : Dev nD × Ck → ℕ) : Ctx m ρ K ⊢ (levAts L lv : sProp 𝕄) := by
  unfold Ctx; iintro ⟨-, H⟩; iexact H

/-- What device `c` owes. -/
def Ow (c : Dev nD) (O : CellTallies nD τ sig Unit) : sProp 𝕄 := iprop(∃ W, owes (c : Thread nD τ) O W)

/-! ## Arrivals -/

theorem step_signal (K : Dev nD × Ck → ℕ) (c : Dev nD) (X : CellTallies nD τ sig Unit) (i : Fin 7) :
    iprop((Ctx m ρ K ∗ Ow c (rest (oBar c) i.val + X)) ∗ dutyTok ER (barCell (peer c i)) 0 (rv i) ∗ Any c (gV (peer c i)) ∗ Any c (aV (peer c i)))
      ⊢ WP c (stSignal c i ⟨⟩) (fun _ => iprop((Ctx m ρ K ∗ Ow c (rest (oBar c) (i.val + 1) + X)) ∗ emp)) := by
  unfold stSignal semSignalWord WP
  rw [sigDev_eq]
  simp only [Prog.lift, Prog.bind_op, Prog.bind_ret, Prog.pure_eq_ret]
  rw [rest_step, add_right_comm]
  unfold Ow
  iintro ⟨⟨#HC, %W, HO⟩, Ht, Hg, Ha⟩
  ihave #Hi := (ctx_at m ρ K (peer c i, none)) $$ HC
  icases Hi with ⟨#Hinv, #Hre⟩
  iapply (Rounds.wp_signal 𝒱₀ ER (Rd m ρ) (c : Thread nD τ) none (dst := (peer c i : Thread nD τ)) (κ := K (peer c i, none))
      (d := rv i) (by rw [duties_bar]; exact Finset.mem_univ _) ((amount_bar m ρ (peer c i) (rv i)).trans (by decide)) ()
      (rest (oBar c) (i.val + 1) + X) rfl) $$ [HO Ht Hg Ha]
  · isplitr; · iexact Hinv
    isplitl [HO]; · iexact HO
    isplitl [Ht]; · iexact Ht
    isplitl [Hg Ha]
    · rw [payload_bar]; unfold barPay; rw [peer_peer]
      isplitl [Hg] <;> iassumption
    · iexact Hre
  iintro HO
  rw [wp_ret]; imodintro
  isplitl [HO]
  · isplitr; · iexact HC
    iexists W; iexact HO
  · iempintro

theorem step_wait_bar (K : Dev nD × Ck → ℕ) (c : Dev nD) (O : CellTallies nD τ sig Unit) (hO : Above 1 O) :
    iprop((Ctx m ρ K ∗ Ow c O) ∗ cred (tallyAt (barCell c) () 7) ∗ atPos ER (barCell c) 0 ∅ 0)
      ⊢ WP c (semWaitWord barS 7#32) (fun _ => iprop((Ctx m ρ K ∗ Ow c O) ∗ bigSep Finset.univ (fun i => barPay c i) ∗ semVal (barCell c) 0)) := by
  unfold semWaitWord WP
  simp only [Prog.lift, Prog.bind_op, Prog.bind_ret, Prog.pure_eq_ret]
  unfold Ow
  iintro ⟨⟨#HC, %W, HO⟩, Hc, Hat⟩
  ihave #Hi := (ctx_at m ρ K (c, none)) $$ HC
  icases Hi with ⟨#Hinv, #Hre⟩
  iapply (Rounds.wp_wait_rest_token 𝒱₀ ER (Rd m ρ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact Hinv
    isplitl [Hc]; · iexact Hc
    isplitl [HO]; · iexact HO
    isplitr
    · iapply (mayWait c (.reg barS) 1 O (by rw [semLv_bar]) hO)
      iapply (ctx_lev m ρ K) $$ HC
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iexact Hinv
    iexact Hat
  rw [wp_ret]; imodintro
  isplitl [HO]
  · isplitr; · iexact HC
    iexists _; iexact HO
  isplitl [Hp] <;> iassumption

/-! ## Transfers -/

/-- Waiting for a transfer of the exchange: what it brings, and its cell closed. -/
theorem wp_wait_x (K : Dev nD × Ck → ℕ) (c : Dev nD) (k : Fin 4) (i : Fin 7) (sm : DmaSem sig) (hsm : sm = xsem k (sl k c i))
    {sp sp' : Space} {s s' : Shape} {e e' : EltTy}
    {srcw : Memref sig .tc sp' s' e'} {dstw : Memref sig .tc sp s e} {hsrc : srcw.view.WordExact} {hdst : dstw.view.WordExact}
    (hN : dstw.view.dmaCredit = Nk k) (n : ℕ) (O : CellTallies nD τ sig Unit) (hs : semLv (.dma (xsem k (sl k c i))) ≤ n) (hO : Above n O)
    {α : Type} {k' : PUnit → Pg F α} {Q : α → sProp 𝕄} :
    iprop(Ctx m ρ K ∗ cred (tallyAt (xCell k c (sl k c i)) () (Nk k)) ∗ Ow c O ∗ atPos ER (xCell k c (sl k c i)) 0 ∅ 0)
      ⊢ iprop((iprop(xPay m ρ k c (sl k c i) ∗ semVal (xCell k c (sl k c i)) 0 ∗ Ow c O) -∗ WP c (k' ⟨⟩) Q)
          -∗ WP c (.op (.waitDma2 sm srcw dstw hsrc hdst) k') Q) := by
  subst hsm
  unfold Ow
  iintro ⟨#HC, Hc, ⟨%W, HO⟩, Hat⟩ Hk
  ihave #Hi := (ctx_at m ρ K (c, some (k, i))) $$ HC
  icases Hi with ⟨#Hinv, #Hre⟩
  iapply (Rounds.wp_wait_rest_token 𝒱₀ ER (Rd m ρ) (c : Thread nD τ) none (κ := K (c, some (k, i)))
      (wpE_waitDma2_eq 𝒱₀ (c : Thread nD τ) none Set.univ) (Set.mem_univ _) () (O := O) (W := W) (R := 0) (m := 0) (T := ∅)
      (by rw [Nat.zero_add, expect_x]; exact hN)) $$ [Hc HO Hat]
  · isplitr; · iexact Hinv
    isplitl [Hc]; · rw [hN]; iexact Hc
    isplitl [HO]; · iexact HO
    isplitr
    · iapply (mayWait c (.dma (xsem k (sl k c i))) n O hs hO)
      iapply (ctx_lev m ρ K) $$ HC
    iexact Hat
  iintro ⟨HO, Hat, -, Hpay⟩
  ihave Hp := (Entails.of_eq (rest_x m ρ k c (sl k c i))) $$ Hpay
  imod (Rounds.cell_close ER (Rd m ρ) (Set.mem_univ (K (c, some (k, i)))) (fun h => h) (R := 0 + 1) (duties_later m ρ (xCell k c (sl k c i)))) $$ [Hat] with Hz
  · isplitr; · iexact Hinv
    iexact Hat
  iapply Hk
  isplitl [Hp]; · iexact Hp
  isplitl [Hz]; · iexact Hz
  iexists _; iexact HO

/-- A block on its way to the `i`-th peer. -/
theorem wp_send_block (K : Dev nD × Ck → ℕ) (c : Dev nD) (i : Fin 7) (n : Dev nD) (hn : n = peer c i) (sm : DmaSem sig) (hsm : sm = xsem 1 c)
    {hsc : (gOwn c : Memref sig (Dev.tc n : Thread nD τ).2.kind .vmem S512x512 .bf16).view.ref.isScScratch = false}
    {hsrc : (bView c i).view.WordExact} {hdst : (gOwn c).view.WordExact}
    {hsem : DmaTarget.Typed .vmem (.dma sm) (.remote (Dev.tc n : Thread nD τ) (gOwn c : Memref sig (Dev.tc n : Thread nD τ).2.kind .vmem S512x512 .bf16) (.dma (slotSem cc0_scratch5 i.succ)) hsc)}
    (O : CellTallies nD τ sig Unit) {α : Type} {k' : PUnit → Pg F α} {Q : α → sProp 𝕄} :
    iprop(Ctx m ρ K ∗ Has c (bV (peer c i)) fullShare (xbl m ρ c (peer c i)) ∗ Any (peer c i) (gV c) ∗ Ow c (O + oX 1 c i)
        ∗ dutyTok ER (xCell 0 c i.succ) 0 0 ∗ dutyTok ER (xCell 1 (peer c i) c) 0 0)
      ⊢ iprop((iprop(cred (tallyAt (xCell 0 c i.succ) () NX) ∗ Ow c O) -∗ WP c (k' ⟨⟩) Q)
          -∗ WP c (.op (.enqueueDma (bView c i) (.remote (Dev.tc n : Thread nD τ) (gOwn c) (.dma (slotSem cc0_scratch5 i.succ)) hsc) (.dma sm) hsrc hdst hsem) k') Q) := by
  subst hn hsm
  rw [← bView_eq, ← gOwn_eq]
  unfold Has Any Ow
  iintro ⟨#HC, ⟨%f, %hf, Hb⟩, ⟨%g, Hg⟩, ⟨%W, HO⟩, Ht0, Ht1⟩ Hk
  ihave #Hi := (ctx_at m ρ K (c, some (0, i))) $$ HC
  icases Hi with ⟨#Hinv0, #Hre0⟩
  ihave #Hi := (ctx_at m ρ K (peer c i, some (1, rv i))) $$ HC
  icases Hi with ⟨#Hinv1, #Hre1⟩
  have he : kcell (peer c i, some (1, rv i)) = xCell 1 (peer c i) c := by
    show xCell 1 (peer c i) (peer (peer c i) (rv i)) = _
    rw [peer_peer]
  rw [he]
  iapply (Rounds.wp_send_pointsTo 𝒱₀ ER (Rd m ρ) (c : Thread nD τ) none (κ₁ := K (c, some (0, i))) (κ₂ := K (peer c i, some (1, rv i)))
    (r₁ := 0) (r₂ := 0) (d₁ := 0) (d₂ := 0) (fs := f) (fd := g) (q := fullShare)
    (by rw [duties_x m ρ 0 c i.succ]; exact Finset.mem_singleton_self _) (by rw [duties_x m ρ 1 (peer c i) c]; exact Finset.mem_singleton_self _)
    () () NX (gOwn_eq c ▸ rfl) (amount_x m ρ 0 c i.succ 0) (amount_x m ρ 1 (peer c i) c 0) O rfl (W := W)
    (by
      rw [payload_x m ρ 0 c i.succ]
      show _ ⊢ Any c (bV (peer c i))
      rw [← bView_eq]
      unfold Any
      iintro H; iexists f; iexact H)
    (by
      rw [payload_x m ρ 1 (peer c i) c]
      show _ ⊢ Has (peer c i) (gV c) fullShare (xbl m ρ c (peer c i))
      rw [← gOwn_eq]
      unfold Has
      iintro H; iexists _; isplitr
      rotate_left
      · iexact H
      · ipureintro; rw [View.read_write_univ]; exact hf)) $$ [Hb Hg HO Ht0 Ht1]
  · isplitr; · iexact Hinv0
    isplitr; · iexact Hinv1
    isplitl [Hb]; · iexact Hb
    isplitl [Hg]; · iexact Hg
    isplitl [HO]; · iexact HO
    isplitl [Ht0]; · iexact Ht0
    isplitr; · iexact Hre0
    isplitl [Ht1]; · iexact Ht1
    iexact Hre1
  iintro ⟨Hc, HO⟩
  iapply Hk
  isplitl [Hc]; · iexact Hc
  iexists W; iexact HO

theorem aPts_own (c c' : Dev nD) (q : PosShare TreeShare) :
    aPts m ρ c' c q = ((aOwn c).view.loc (c' : Thread nD τ) ↦[(aOwn c).view.set]{q} (aFull m ρ) : sProp 𝕄) := by
  have key : ∀ (o : Fin 2 → Nat) (ho : o = ![c.val, 0]) (h : ∀ a, o a + S1x128.size a ≤ S8x128.size a),
      aPts m ρ c' c q = ((aM.slice (Rect.unit (s := S8x128) o S1x128.size h) (fun _ => rfl)).view.loc (c' : Thread nD τ)
        ↦[(aM.slice (Rect.unit (s := S8x128) o S1x128.size h) (fun _ => rfl)).view.set]{q} (aFull m ρ) : sProp 𝕄) := by
    intro o ho h; subst ho; rfl
  exact key _ (k0_off19_eq c) (k0_off19_inb c)

/-- A row of maxima on its way to the `i`-th peer: one seventh of the row's read share goes with it. -/
theorem wp_send_max (K : Dev nD × Ck → ℕ) (c : Dev nD) (i : Fin 7) (n : Dev nD) (hn : n = peer c i) (sm : DmaSem sig) (hsm : sm = xsem 3 c)
    {hsc : (aOwn c : Memref sig (Dev.tc n : Thread nD τ).2.kind .vmem S1x128 .f32).view.ref.isScScratch = false}
    {hsrc : (aOwn c).view.WordExact} {hdst : (aOwn c).view.WordExact}
    {hsem : DmaTarget.Typed .vmem (.dma sm) (.remote (Dev.tc n : Thread nD τ) (aOwn c : Memref sig (Dev.tc n : Thread nD τ).2.kind .vmem S1x128 .f32) (.dma (slotSem cc0_scratch7 i.succ)) hsc)}
    (O : CellTallies nD τ sig Unit) {α : Type} {k' : PUnit → Pg F α} {Q : α → sProp 𝕄} :
    iprop(Ctx m ρ K ∗ aPts m ρ c c (Transfers.shareTokN fullShare i.val) ∗ Any (peer c i) (aV c) ∗ Ow c (O + oX 3 c i)
        ∗ dutyTok ER (xCell 2 c i.succ) 0 0 ∗ dutyTok ER (xCell 3 (peer c i) c) 0 0)
      ⊢ iprop((iprop(cred (tallyAt (xCell 2 c i.succ) () NA) ∗ Ow c O) -∗ WP c (k' ⟨⟩) Q)
          -∗ WP c (.op (.enqueueDma (aOwn c) (.remote (Dev.tc n : Thread nD τ) (aOwn c) (.dma (slotSem cc0_scratch7 i.succ)) hsc) (.dma sm) hsrc hdst hsem) k') Q) := by
  subst hn hsm
  rw [aPts_own, ← aOwn_eq]
  unfold Any Ow
  iintro ⟨#HC, Hb, ⟨%g, Hg⟩, ⟨%W, HO⟩, Ht0, Ht1⟩ Hk
  ihave #Hi := (ctx_at m ρ K (c, some (2, i))) $$ HC
  icases Hi with ⟨#Hinv0, #Hre0⟩
  ihave #Hi := (ctx_at m ρ K (peer c i, some (3, rv i))) $$ HC
  icases Hi with ⟨#Hinv1, #Hre1⟩
  have he : kcell (peer c i, some (3, rv i)) = xCell 3 (peer c i) c := by
    show xCell 3 (peer c i) (peer (peer c i) (rv i)) = _
    rw [peer_peer]
  rw [he]
  iapply (Rounds.wp_send_pointsTo 𝒱₀ ER (Rd m ρ) (c : Thread nD τ) none (κ₁ := K (c, some (2, i))) (κ₂ := K (peer c i, some (3, rv i)))
    (r₁ := 0) (r₂ := 0) (d₁ := 0) (d₂ := 0) (fs := aFull m ρ) (fd := g) (q := Transfers.shareTokN fullShare i.val)
    (by rw [duties_x m ρ 2 c i.succ]; exact Finset.mem_singleton_self _) (by rw [duties_x m ρ 3 (peer c i) c]; exact Finset.mem_singleton_self _)
    () () NA (aOwn_eq c ▸ rfl) (amount_x m ρ 2 c i.succ 0) (amount_x m ρ 3 (peer c i) c 0) O rfl (W := W)
    (by
      rw [payload_x m ρ 2 c i.succ]
      show _ ⊢ aPts m ρ c c (Transfers.shareTokN fullShare (i.succ.val - 1))
      rw [aPts_own]
      exact .rfl)
    (by
      rw [payload_x m ρ 3 (peer c i) c]
      show _ ⊢ aPts m ρ (peer c i) c fullShare
      rw [aPts_own]
      refine Entails.of_eq (pointsTo_congr fun j hj => ?_)
      obtain ⟨x, -, rfl⟩ := Finset.mem_map.mp hj
      rw [View.write_emb_of_mem _ _ (Finset.mem_univ x)]
      rfl)) $$ [Hb Hg HO Ht0 Ht1]
  · isplitr; · iexact Hinv0
    isplitr; · iexact Hinv1
    isplitl [Hb]; · iexact Hb
    isplitl [Hg]; · iexact Hg
    isplitl [HO]; · iexact HO
    isplitl [Ht0]; · iexact Ht0
    isplitr; · iexact Hre0
    isplitl [Ht1]; · iexact Ht1
    iexact Hre1
  iintro ⟨Hc, HO⟩
  iapply Hk
  isplitl [Hc]; · iexact Hc
  iexists W; iexact HO

end Cert.KernelIdeal.K
end
-- ==== Proof.Compute.lean ====
/- The steps of the body, each from what it needs to what it leaves. -/
module

public import proofs.«01_k».proof.Proof.Exchange

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Rounding `x` -/

/-- Device `c`'s columns of `x`, staged. -/
def xPts (c : Dev nD) : sProp 𝕄 := ((c : Thread nD τ).loc cc0_stg0_0) ↦[Finset.univ]{fullShare} (xstg m ρ c)

/-- A part of `x` rounded into a place of the bf16 copy. -/
theorem wp_round_b (c : Dev nD) (s : Dev nD) (o : Fin 2 → Nat) (ho : o = ![512 * s.val, 0])
    {h : ∀ a, o a + S512x512.size a ≤ S4096x512.size a}
    {hl : xM.view.LoadsAt (Rect.unit (s := S4096x512) o S512x512.size h).toLoadRect}
    {hl' : bM.view.LoadsAt (Rect.unit (s := S4096x512) o S512x512.size h).toLoadRect}
    {hx : (bM.access (Rect.unit (s := S4096x512) o S512x512.size h)).Stores Finset.univ} {hm}
    {α : Type} {k : PUnit → Pg F α} {Q : α → sProp 𝕄} :
    iprop(xPts m ρ c ∗ Any c (bV s)) ⊢ iprop((iprop(xPts m ρ c ∗ Has c (bV s) fullShare (xbl m ρ c s)) -∗ WP c (k ⟨⟩) Q)
      -∗ WP c (.op (.load xM (Rect.unit (s := S4096x512) o S512x512.size h).toLoadRect hl) fun v =>
        .op (.load bM (Rect.unit (s := S4096x512) o S512x512.size h).toLoadRect hl') fun _ =>
        .op (.store bM (Rect.unit (s := S4096x512) o S512x512.size h) (k0_pay1 v) Finset.univ hx hm) k) Q) := by
  subst ho
  unfold xPts
  iintro ⟨Hx, Hb⟩ Hk
  iapply (wp_load_rect 𝒱₀ (c : Thread nD τ) none Set.univ (m := xM) (r := rX s) (S := Finset.univ) (Finset.subset_univ _)) $$ Hx
  iintro Hx
  iapply (wp_load_any c (m := bM) (r := rX s)) $$ Hb
  iintro Hb
  iapply (wp_store_any c (m := bM) (r := rX s)) $$ Hb
  iintro Hb
  iapply Hk
  isplitl [Hx]
  · iexact Hx
  · iexact Hb

/-- This device's own part of `x` rounded into its columns of the gathered block. -/
theorem wp_round_g (c : Dev nD) (o o' : Fin 2 → Nat) (ho : o = ![512 * c.val, 0]) (ho' : o' = ![0, 512 * c.val])
    {h : ∀ a, o a + S512x512.size a ≤ S4096x512.size a} {h' : ∀ a, o' a + S512x512.size a ≤ S512x4096.size a}
    {hl : xM.view.LoadsAt (Rect.unit (s := S4096x512) o S512x512.size h).toLoadRect}
    {hl' : gM.view.LoadsAt (Rect.unit (s := S512x4096) o' S512x512.size h').toLoadRect}
    {hx : (gM.access (Rect.unit (s := S512x4096) o' S512x512.size h')).Stores Finset.univ} {hm}
    {α : Type} {k : PUnit → Pg F α} {Q : α → sProp 𝕄} :
    iprop(xPts m ρ c ∗ Any c (gV c)) ⊢ iprop((iprop(xPts m ρ c ∗ Has c (gV c) fullShare (xbl m ρ c c)) -∗ WP c (k ⟨⟩) Q)
      -∗ WP c (.op (.load xM (Rect.unit (s := S4096x512) o S512x512.size h).toLoadRect hl) fun v =>
        .op (.load gM (Rect.unit (s := S512x4096) o' S512x512.size h').toLoadRect hl') fun _ =>
        .op (.store gM (Rect.unit (s := S512x4096) o' S512x512.size h') (k0_pay8 v) Finset.univ hx hm) k) Q) := by
  subst ho ho'
  unfold xPts
  iintro ⟨Hx, Hb⟩ Hk
  iapply (wp_load_rect 𝒱₀ (c : Thread nD τ) none Set.univ (m := xM) (r := rX c) (S := Finset.univ) (Finset.subset_univ _)) $$ Hx
  iintro Hx
  iapply (wp_load_any c (m := gM) (r := rG c)) $$ Hb
  iintro Hb
  iapply (wp_store_any c (m := gM) (r := rG c)) $$ Hb
  iintro Hb
  iapply Hk
  isplitl [Hx]
  · iexact Hx
  · iexact Hb

theorem step_send (K : Dev nD × Ck → ℕ) (c : Dev nD) (X : CellTallies nD τ sig Unit) (i : Fin 7) :
    iprop((Ctx m ρ K ∗ Ow c (rest (oX 1 c) i.val + X) ∗ xPts m ρ c)
        ∗ (Any c (bV (peer c i)) ∗ Any (peer c i) (gV c) ∗ dutyTok ER (xCell 0 c i.succ) 0 0 ∗ dutyTok ER (xCell 1 (peer c i) c) 0 0))
      ⊢ WP c (stSend c i ⟨⟩) (fun _ => iprop((Ctx m ρ K ∗ Ow c (rest (oX 1 c) (i.val + 1) + X) ∗ xPts m ρ c)
        ∗ cred (tallyAt (xCell 0 c i.succ) () NX))) := by
  unfold stSend
  simp only [Prog.lift, Prog.bind_op, Prog.bind_ret, Prog.pure_eq_ret]
  rw [rest_step, add_right_comm]
  iintro ⟨⟨#HC, HO, Hx⟩, Hb, Hg, Ht0, Ht1⟩
  iapply (wp_round_b m ρ c (peer c i) _ (k0_off1_eq c i)) $$ [Hx Hb]
  · isplitl [Hx] <;> iassumption
  iintro ⟨Hx, Hb⟩
  iapply (wp_send_block m ρ K c i (sendDev c i) (sendDev_eq c i) (ownSem cc0_scratch6 c) (ownSem_eq cc0_scratch6 c) (rest (oX 1 c) (i.val + 1) + X))
    $$ [Hb Hg HO Ht0 Ht1]
  · isplitr; · iexact HC
    isplitl [Hb]; · iexact Hb
    isplitl [Hg]; · iexact Hg
    isplitl [HO]; · iexact HO
    isplitl [Ht0] <;> iassumption
  iintro ⟨Hc, HO⟩
  unfold WP
  rw [wp_ret]; imodintro
  isplitl [HO Hx]
  · isplitr; · iexact HC
    isplitl [HO] <;> iassumption
  · iexact Hc

theorem step_own (c : Dev nD) :
    iprop(xPts m ρ c ∗ Any c (gV c)) ⊢ WP c (stOwn c) (fun _ => iprop(xPts m ρ c ∗ Has c (gV c) fullShare (xbl m ρ c c))) := by
  unfold stOwn
  simp only [Prog.lift, Prog.bind_op, Prog.bind_ret, Prog.pure_eq_ret]
  iintro H
  iapply (wp_round_g m ρ c _ _ (k0_off5_eq c) (k0_off6_eq c)) $$ H
  iintro H
  unfold WP
  rw [wp_ret]; imodintro
  iexact H

/-! ## The weight tiles, copied three ahead -/

/-- The slot of the `p`-th tile, in the order of their use. -/
def slotN (p : ℕ) : Fin 3 := ⟨p % 3, Nat.mod_lt _ (by decide)⟩
def colN (p : ℕ) : Fin 8 := ⟨p % 8, Nat.mod_lt _ (by decide)⟩
/-- The share of the weights that goes with a slot. -/
abbrev wq (s : Fin 3) : PosShare TreeShare := Transfers.shareTokN fullShare s.val

def wWhole (c : Dev nD) (q : PosShare TreeShare) : sProp 𝕄 := ((c : Thread nD τ).loc main_arg1) ↦[Finset.univ]{q} (wst m c)
def wPart (c : Dev nD) (s n : Fin 8) (q : PosShare TreeShare) : sProp 𝕄 := ((c : Thread nD τ).loc main_arg1) ↦[(wV s n).set]{q} (wst m c)
def wRest (c : Dev nD) (s n : Fin 8) (q : PosShare TreeShare) : sProp 𝕄 :=
  ((c : Thread nD τ).loc main_arg1) ↦[Finset.univ \ (wV s n).set]{q} (wst m c)

theorem wWhole_split (c : Dev nD) (s n : Fin 8) (q : PosShare TreeShare) : wWhole m c q ⊣⊢ iprop(wPart m c s n q ∗ wRest m c s n q) :=
  pointsTo_split_subset (Finset.subset_univ _)

/-- A slot at rest. -/
def Idle (c : Dev nD) (s : Fin 3) : sProp 𝕄 :=
  iprop(semVal ((c : Thread nD τ), .dma (wSem s)) 0 ∗ Any c (vV s) ∗ wWhole m c (wq s))

def NW : ℕ := (vView 0).view.dmaCredit

/-- A tile on its way into a slot. -/
def FlyOf (c : Dev nD) (s : Fin 3) (b n : Fin 8) : sProp 𝕄 :=
  iprop(Transfers.Flight EC (c : Thread nD τ) (.dma (wSem s)) () NW iprop(Has c (vV s) fullShare (wL m c b n) ∗ wPart m c b n (wq s)) ∗ wRest m c b n (wq s))
/-- The `p`-th tile on its way, or, past the last one, its slot at rest. -/
def Fly (c : Dev nD) (p : ℕ) : sProp 𝕄 := if p < 64 then FlyOf m c (slotN p) (blk c (p / 8)) (colN p) else Idle m c (slotN p)

/-- The pipeline before the `p`-th tile is used. -/
def Pipe (c : Dev nD) (p : ℕ) : sProp 𝕄 := iprop(Fly m c p ∗ Fly m c (p + 1) ∗ Idle m c (slotN (p + 2)))

theorem wp_start (c : Dev nD) (d n : Fin 8) (mw : Memref sig .tc .hbm S512x1024 .f32) (b : Fin 8) (hw : mw.view = wV b n) (s : Fin 3)
    {hsrc : mw.view.WordExact} {hdst : (vView s).view.WordExact} {hsem : DmaTarget.Typed .hbm (.dma (wSem s))
      (DmaTarget.here (nD := nD) (τ := τ) (p := Proc.tc) (vView s : Memref sig Kind.tc .vmem S512x1024 .f32))}
    {α : Type} {k : PUnit → Pg F α} {Q : α → sProp 𝕄} :
    Idle m c s ⊢ iprop((FlyOf m c s b n -∗ WP c (k ⟨⟩) Q) -∗ WP c (.op (.enqueueDma mw (DmaTarget.here (nD := nD) (τ := τ) (p := Proc.tc) (vView s : Memref sig Kind.tc .vmem S512x1024 .f32))
        (.dma (wSem s)) hsrc hdst hsem) k) Q) := by
  obtain ⟨v, hv⟩ := mw
  dsimp only at hw
  subst hw
  unfold Idle Any
  iintro ⟨Hz, ⟨%fd, Hv⟩, Hw⟩ Hk
  ihave Hw' := (wWhole_split m c b n (wq s)).1 $$ Hw
  icases Hw' with ⟨Hw, Hr⟩
  unfold wPart
  iapply (Transfers.wp_dmaLocal EC 𝒱₀ (c : Thread nD τ) none (src := ⟨wV b n, hv⟩) (dst := vView s) (fs := wst m c) (q := wq s) (Sd := (vV s).set) (fd := fd)
    () NW rfl (View.dmaCredit_pos _ (by decide)) (by rw [show (vView s).view.set = (vV s).set from View.set_reshape _ _]))
    $$ [Hz Hv Hw]
  · isplitl [Hw]; · iexact Hw
    isplitl [Hv]; · iexact Hv
    iexact Hz
  iintro Hf
  iapply Hk
  unfold FlyOf
  isplitl [Hf]
  · iapply (Transfers.Flight_mono EC (c := (c : Thread nD τ)) ?_) $$ Hf
    unfold Has wPart
    iintro ⟨Hv, Hw⟩
    isplitl [Hv]
    · iexists _; isplitr
      rotate_left
      · iexact Hv
      · ipureintro
        have h := View.read_write_univ (Val := Elt F) (v := (vView s).view) fd ((wV b n).read (Elt F) (wst m c))
        funext j
        have hj := congrFun h ((Shape.reshapeEquiv squeezes_S1x512x1024_S512x1024.numel_eq).symm j)
        refine Eq.trans ?_ hj
        show (vV s).read (Elt F) _ j = (vV s).read (Elt F) _ (Shape.reshapeEquiv squeezes_S1x512x1024_S512x1024.numel_eq ((Shape.reshapeEquiv squeezes_S1x512x1024_S512x1024.numel_eq).symm j))
        rw [Equiv.apply_symm_apply]
    · iexact Hw
  · iexact Hr

theorem step_start (c : Dev nD) (d n : Fin 8) :
    Idle m c (slotN (8 * d.val + n.val)) ⊢ WP c (stStart c d n) (fun _ => Fly m c (8 * d.val + n.val)) := by
  unfold stStart
  simp only [Prog.lift, Prog.bind_op, Prog.bind_ret, Prog.pure_eq_ret]
  rw [show slotN (8 * d.val + n.val) = wSlot d n from rfl]
  iintro H
  iapply (wp_start m c d n (wView c d n) (blk c d.val) (wView_eq c d n) (wSlot d n)) $$ H
  iintro H
  unfold WP
  rw [wp_ret]; imodintro
  have hd := d.isLt
  have hn := n.isLt
  unfold Fly
  rw [if_pos (by omega), show (8 * d.val + n.val) / 8 = d.val by omega,
    show colN (8 * d.val + n.val) = n from Fin.ext (by show (8 * d.val + n.val) % 8 = n.val; omega),
    show slotN (8 * d.val + n.val) = wSlot d n from rfl]
  iexact H

theorem step_ahead (c : Dev nD) (d n : Fin 8) :
    Idle m c (slotN (8 * d.val + n.val + 2)) ⊢ WP c (stAhead c d n) (fun _ => Fly m c (8 * d.val + n.val + 2)) := by
  unfold stAhead
  have hn := n.isLt
  split
  · rename_i h
    exact step_start m c d ⟨n.val + 2, h⟩
  · split
    · rename_i h h'
      have := step_start m c ⟨d.val + 1, h'⟩ ⟨n.val + 2 - 8, by omega⟩
      rw [show 8 * (d.val + 1) + (n.val + 2 - 8) = 8 * d.val + n.val + 2 by omega] at this
      exact this
    · rename_i h h'
      simp only [Prog.pure_eq_ret]
      unfold WP
      rw [wp_ret]
      unfold Fly
      rw [if_neg (by omega)]
      iintro H; imodintro; iexact H

/-! ## The products -/

/-- Columns `n` of the result before block `d` is added. -/
def OT (c : Dev nD) (n : Fin 8) : ℕ → sProp 𝕄
  | 0 => Any c (oV n)
  | d + 1 => Has c (oV n) fullShare (acc m ρ c n d)

theorem wp_load_g (c : Dev nD) (s : Fin 8) (o : Fin 2 → Nat) (ho : o = ![0, 512 * s.val])
    {h : ∀ a, o a + S512x512.size a ≤ S512x4096.size a}
    {hl : gM.view.LoadsAt (Rect.unit (s := S512x4096) o S512x512.size h).toLoadRect} {X : S512x512.Idx → Elt F .bf16}
    {α : Type} {k : (S512x512.Idx → Elt F .bf16) → Pg F α} {Q : α → sProp 𝕄} :
    Has c (gV s) fullShare X ⊢ iprop((Has c (gV s) fullShare X -∗ WP c (k X) Q)
      -∗ WP c (.op (.load gM (Rect.unit (s := S512x4096) o S512x512.size h).toLoadRect hl) k) Q) := by
  subst ho
  exact wp_load_has c (m := gM) (r := rG s)

theorem step_mul (K : Dev nD × Ck → ℕ) (c : Dev nD) (O : CellTallies nD τ sig Unit) (hO : Above 0 O) (d n : Fin 8) :
    iprop((Ctx m ρ K ∗ Ow c O ∗ Has c (gV (blk c d.val)) fullShare (xbl m ρ (blk c d.val) c)) ∗ Fly m c (8 * d.val + n.val) ∗ OT m ρ c n d.val)
      ⊢ WP c (stMul c d n) (fun _ => iprop((Ctx m ρ K ∗ Ow c O ∗ Has c (gV (blk c d.val)) fullShare (xbl m ρ (blk c d.val) c))
          ∗ Idle m c (slotN (8 * d.val + n.val)) ∗ OT m ρ c n (d.val + 1))) := by
  have hd := d.isLt
  have hn := n.isLt
  unfold stMul Fly
  rw [if_pos (by omega), show (8 * d.val + n.val) / 8 = d.val by omega,
    show colN (8 * d.val + n.val) = n from Fin.ext (by show (8 * d.val + n.val) % 8 = n.val; omega),
    show slotN (8 * d.val + n.val) = wSlot d n from rfl]
  simp only [Prog.lift, Prog.bind_op, Prog.bind_ret, Prog.pure_eq_ret]
  unfold FlyOf Ow
  iintro ⟨⟨#HC, ⟨%W, HO⟩, Hg⟩, ⟨Hf, Hr⟩, Ho⟩
  iapply (Transfers.wp_waitLocalO EC 𝒱₀ (c : Thread nD τ) none (srcw := wView c d n) (dstw := vView (wSlot d n)) () (N := NW) rfl) $$ [Hf HO]
  · isplitl [Hf]; · iexact Hf
    isplitl [HO]; · iexact HO
    iapply (mayWait c (.dma (wSem (wSlot d n))) 0 O (by rw [semLv_w]) hO)
    iapply (ctx_lev m ρ K) $$ HC
  iintro ⟨⟨Hv, Hw⟩, Hz, HO⟩
  ihave Hw := (wWhole_split m c (blk c d.val) n (wq (wSlot d n))).2 $$ [Hw Hr]
  · isplitl [Hw] <;> iassumption
  iapply (wp_load_has c (m := vM) (r := vRect (wSlot d n))) $$ Hv
  iintro Hv
  iapply (wp_load_g c (blk c d.val) _ (k0_off10_eq c d)) $$ Hg
  iintro Hg
  ihave Hv := (Has_any c (vV (wSlot d n)) _) $$ Hv
  obtain ⟨d, hd⟩ := d
  cases d with
  | zero =>
    simp only [Prog.bind_op, Prog.bind_ret]
    unfold OT
    iapply (wp_load_any c (m := oM) (r := tile n)) $$ Ho
    iintro Ho
    iapply (wp_store_any c (m := oM) (r := tile n)) $$ Ho
    iintro Ho
    unfold WP
    rw [wp_ret]; imodintro
    isplitl [HO Hg]
    · isplitr; · iexact HC
      isplitl [HO]; · iexists _; iexact HO
      iexact Hg
    isplitl [Hz Hv Hw]
    · unfold Idle
      isplitl [Hz]; · iexact Hz
      isplitl [Hv] <;> iassumption
    iexact Ho
  | succ d =>
    simp only [Prog.bind_op, Prog.bind_ret]
    unfold OT
    iapply (wp_load_has c (m := oM) (r := tile n)) $$ Ho
    iintro Ho
    ihave Ho := (Has_any c (oV n) _) $$ Ho
    iapply (wp_load_any c (m := oM) (r := tile n)) $$ Ho
    iintro Ho
    iapply (wp_store_any c (m := oM) (r := tile n)) $$ Ho
    iintro Ho
    unfold WP
    rw [wp_ret]; imodintro
    isplitl [HO Hg]
    · isplitr; · iexact HC
      isplitl [HO]; · iexists _; iexact HO
      iexact Hg
    isplitl [Hz Hv Hw]
    · unfold Idle
      isplitl [Hz]; · iexact Hz
      isplitl [Hv] <;> iassumption
    iexact Ho

/-- One turn of the inner loop. -/
theorem step_piece (K : Dev nD × Ck → ℕ) (c : Dev nD) (O : CellTallies nD τ sig Unit) (hO : Above 0 O) (d n : Fin 8) :
    iprop(((Ctx m ρ K ∗ Ow c O ∗ Has c (gV (blk c d.val)) fullShare (xbl m ρ (blk c d.val) c)) ∗ Pipe m c (8 * d.val + n.val)) ∗ OT m ρ c n d.val)
      ⊢ WP c (stPiece c d n ⟨⟩) (fun _ => iprop(((Ctx m ρ K ∗ Ow c O ∗ Has c (gV (blk c d.val)) fullShare (xbl m ρ (blk c d.val) c))
          ∗ Pipe m c (8 * d.val + (n.val + 1))) ∗ OT m ρ c n (d.val + 1))) := by
  show _ ⊢ WP c (stAhead c d n >>= fun _ => stMul c d n) _
  unfold Pipe
  refine BIBase.Entails.trans ?_ (wp_seq c (step_ahead m c d n) (M := iprop(((Ctx m ρ K ∗ Ow c O
    ∗ Has c (gV (blk c d.val)) fullShare (xbl m ρ (blk c d.val) c)) ∗ Fly m c (8 * d.val + n.val) ∗ OT m ρ c n d.val) ∗ Fly m c (8 * d.val + n.val + 1))) fun _ => ?_)
  · iintro ⟨⟨HR, Hf, Hf', Hi⟩, Ho⟩
    isplitl [Hi]; · iexact Hi
    isplitr [Hf']
    · isplitl [HR]; · iexact HR
      isplitl [Hf] <;> iassumption
    iexact Hf'
  · refine BIBase.Entails.trans ?_ (wp_keep c (step_mul m ρ K c O hO d n) (M := iprop(Fly m c (8 * d.val + n.val + 1) ∗ Fly m c (8 * d.val + n.val + 2))) fun _ => ?_)
    · iintro ⟨Hf'', H, Hf'⟩
      isplitl [H]; · iexact H
      isplitl [Hf'] <;> iassumption
    · rw [show 8 * d.val + (n.val + 1) = 8 * d.val + n.val + 1 from rfl, show 8 * d.val + n.val + 1 + 1 = 8 * d.val + n.val + 2 from rfl,
        show slotN (8 * d.val + n.val + 1 + 2) = slotN (8 * d.val + n.val) from Fin.ext (by show (8 * d.val + n.val + 1 + 2) % 3 = (8 * d.val + n.val) % 3; omega)]
      iintro ⟨⟨HR, Hi, Ho⟩, Hf, Hf'⟩
      isplitr [Ho]
      · isplitl [HR]; · iexact HR
        isplitl [Hf]; · iexact Hf
        isplitl [Hf'] <;> iassumption
      iexact Ho

end Cert.KernelIdeal.K
end
-- ==== Proof.Parts.lean ====
/- Every buffer is its parts: whole to parts and back. -/
module

public import proofs.«01_k».proof.Proof.Compute

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Points-to by classes of elements -/

section
variable {T : Type} [Fintype T] [DecidableEq T] {ℓ : Loc nD τ sig} (V : T → Finset (Idx ℓ)) (cl : Idx ℓ → T)
  (h : ∀ t i, i ∈ V t ↔ cl i = t)
include h

omit [FloatOps F] in
theorem parts_pt (q : PosShare TreeShare) (f : Buf (Elt F) ℓ) :
    (ℓ ↦[Finset.univ]{q} f : sProp 𝕄) = bigSep Finset.univ (fun t => ℓ ↦[V t]{q} f) := by
  have hd : ∀ t ∈ (Finset.univ : Finset T), ∀ t' ∈ (Finset.univ : Finset T), t ≠ t' → Disjoint (V t) (V t') := fun t _ t' _ hne =>
    Finset.disjoint_left.mpr fun i hi hi' => hne (((h t i).mp hi).symm.trans ((h t' i).mp hi'))
  have hu : (Finset.univ : Finset T).biUnion V = Finset.univ := by
    ext i; simp only [Finset.mem_biUnion, Finset.mem_univ, true_and, iff_true]; exact ⟨cl i, (h _ i).mpr rfl⟩
  have e := pointsTo_biUnion (Ix := Unit) (Name := ℕ) (U := UU) (Lvl := ℕ) (Val := Elt F) (q := q) (f := f) Finset.univ V hd
  rw [hu] at e
  exact e

omit [FloatOps F] in
theorem parts_join (q : PosShare TreeShare) (f₀ : Buf (Elt F) ℓ) (P : T → Buf (Elt F) ℓ → Prop) (hP : ∀ t f g, (∀ i ∈ V t, g i = f i) → P t f → P t g) :
    bigSep Finset.univ (fun t => iprop(∃ f : Buf (Elt F) ℓ, ⌜P t f⌝ ∗ ℓ ↦[V t]{q} f)) ⊢ (iprop(∃ g, ⌜∀ t, P t g⌝ ∗ ℓ ↦[Finset.univ]{q} g) : sProp 𝕄) := by
  have hd : ∀ t ∈ (Finset.univ : Finset T), ∀ t' ∈ (Finset.univ : Finset T), t ≠ t' → Disjoint (V t) (V t') := fun t _ t' _ hne =>
    Finset.disjoint_left.mpr fun i hi hi' => hne (((h t i).mp hi).symm.trans ((h t' i).mp hi'))
  have hu : (Finset.univ : Finset T).biUnion V = Finset.univ := by
    ext i; simp only [Finset.mem_biUnion, Finset.mem_univ, true_and, iff_true]; exact ⟨cl i, (h _ i).mpr rfl⟩
  haveI : Nonempty (Buf (Elt F) ℓ) := ⟨f₀⟩
  refine BIBase.Entails.trans (show _ ⊢ iprop(∃ fs : T → Buf (Elt F) ℓ, bigSep Finset.univ (fun t => iprop(⌜P t (fs t)⌝ ∗ ℓ ↦[V t]{q} (fs t)))) from
    bigSep_exists_pi (Y := fun _ => Buf (Elt F) ℓ) Finset.univ (fun t f => iprop(⌜P t f⌝ ∗ ℓ ↦[V t]{q} f))) ?_
  iintro ⟨%fs, H⟩
  have e := pointsTo_biUnion_join (Ix := Unit) (Name := ℕ) (U := UU) (Lvl := ℕ) (Val := Elt F) (q := q) Finset.univ V fs f₀ hd
  rw [hu] at e
  ihave H := (show bigSep Finset.univ (fun t => iprop(⌜P t (fs t)⌝ ∗ ℓ ↦[V t]{q} (fs t))) ⊢ iprop(⌜∀ t ∈ (Finset.univ : Finset T), P t (fs t)⌝
    ∗ bigSep Finset.univ (fun t => ℓ ↦[V t]{q} (fs t))) from bigSep_pure_sep Finset.univ _ _) $$ H
  icases H with ⟨%hp, H⟩
  ihave H := e $$ H
  icases H with ⟨%g, %hg, H⟩
  iexists g
  isplitr
  · ipureintro; exact fun t => hP t (fs t) g (fun i hi => hg t (Finset.mem_univ t) i hi) (hp t (Finset.mem_univ t))
  · iexact H
end

/-! ## The classes -/

section
variable {d₀ d₁ : ℕ}

theorem mem_rX (i : S4096x512.Idx) (s : Fin 8) :
    i ∈ (rX s).set ↔ (⟨(i 0).val / 512, by have := (i 0).isLt; change (i 0).val < 4096 at this; omega⟩ : Fin 8) = s := by
  rw [Rect.mem_set_unit, Fin.ext_iff, Fin.forall_fin_two]
  have h0 : (i 0).val < 4096 := (i 0).isLt
  have h1 : (i 1).val < 512 := (i 1).isLt
  show (512 * s.val ≤ (i 0).val ∧ (i 0).val < 512 * s.val + 512) ∧ (0 ≤ (i 1).val ∧ (i 1).val < 0 + 512) ↔ (i 0).val / 512 = s.val
  omega
theorem mem_rG (i : S512x4096.Idx) (s : Fin 8) :
    i ∈ (rG s).set ↔ (⟨(i 1).val / 512, by have := (i 1).isLt; change (i 1).val < 4096 at this; omega⟩ : Fin 8) = s := by
  rw [Rect.mem_set_unit, Fin.ext_iff, Fin.forall_fin_two]
  have h0 : (i 0).val < 512 := (i 0).isLt
  have h1 : (i 1).val < 4096 := (i 1).isLt
  show (0 ≤ (i 0).val ∧ (i 0).val < 0 + 512) ∧ (512 * s.val ≤ (i 1).val ∧ (i 1).val < 512 * s.val + 512) ↔ (i 1).val / 512 = s.val
  omega
theorem mem_rA (i : S8x128.Idx) (s : Fin 8) : i ∈ (rA s).set ↔ (i 0 : Fin 8) = s := by
  refine Iff.trans ?_ (Fin.ext_iff (a := (i 0 : Fin 8)) (b := s)).symm
  rw [Rect.mem_set_unit, Fin.forall_fin_two]
  have h0 : (i 0).val < 8 := (i 0).isLt
  have h1 : (i 1).val < 128 := (i 1).isLt
  show (s.val ≤ (i 0).val ∧ (i 0).val < s.val + 1) ∧ (0 ≤ (i 1).val ∧ (i 1).val < 0 + 128) ↔ (i 0).val = s.val
  omega
theorem mem_vRect (i : S3x512x1024.Idx) (s : Fin 3) : i ∈ (vRect s).set ↔ (i 0 : Fin 3) = s := by
  refine Iff.trans ?_ (Fin.ext_iff (a := (i 0 : Fin 3)) (b := s)).symm
  rw [Rect.mem_set_unit, Fin.forall_fin_succ, Fin.forall_fin_two]
  have h0 : (i 0).val < 3 := (i 0).isLt
  have h1 : (i 1).val < 512 := (i 1).isLt
  have h2 : (i 2).val < 1024 := (i 2).isLt
  show (s.val ≤ (i 0).val ∧ (i 0).val < s.val + 1) ∧ (0 ≤ (i 1).val ∧ (i 1).val < 0 + 512) ∧ (0 ≤ (i 2).val ∧ (i 2).val < 0 + 1024) ↔ (i 0).val = s.val
  omega
/-- The tile an entry of the result lies in. -/
def colOf (i : S512x8192.Idx) : Fin 8 := ⟨(i 1).val / 1024, by have := (i 1).isLt; change (i 1).val < 8192 at this; omega⟩
theorem mem_tile (i : S512x8192.Idx) (n : Fin 8) : i ∈ (tile n).set ↔ colOf i = n := by
  rw [Rect.mem_set_unit, Fin.ext_iff, Fin.forall_fin_two]
  have h0 : (i 0).val < 512 := (i 0).isLt
  have h1 : (i 1).val < 8192 := (i 1).isLt
  show (0 ≤ (i 0).val ∧ (i 0).val < 0 + 512) ∧ (1024 * n.val ≤ (i 1).val ∧ (i 1).val < 1024 * n.val + 1024) ↔ (i 1).val / 1024 = n.val
  omega

theorem mem_bV (c : Dev nD) (s : Fin 8) (i : Idx ((c : Thread nD τ).loc cc0_scratch0)) :
    i ∈ (bV s).set ↔ (⟨((i : S4096x512.Idx) 0).val / 512, by have := ((i : S4096x512.Idx) 0).isLt; change ((i : S4096x512.Idx) 0).val < 4096 at this; omega⟩ : Fin 8) = s := by
  rw [show (bV s).set = (rX s).set from View.set_slice_whole cc0_scratch0 (rX s)]; exact mem_rX i s
theorem mem_gV (c : Dev nD) (s : Fin 8) (i : Idx ((c : Thread nD τ).loc cc0_scratch1)) :
    i ∈ (gV s).set ↔ (⟨((i : S512x4096.Idx) 1).val / 512, by have := ((i : S512x4096.Idx) 1).isLt; change ((i : S512x4096.Idx) 1).val < 4096 at this; omega⟩ : Fin 8) = s := by
  rw [show (gV s).set = (rG s).set from View.set_slice_whole cc0_scratch1 (rG s)]; exact mem_rG i s
theorem mem_aV (c : Dev nD) (s : Fin 8) (i : Idx ((c : Thread nD τ).loc cc0_scratch3)) : i ∈ (aV s).set ↔ ((i : S8x128.Idx) 0 : Fin 8) = s := by
  rw [show (aV s).set = (rA s).set from View.set_slice_whole cc0_scratch3 (rA s)]; exact mem_rA i s
theorem mem_vV (c : Dev nD) (s : Fin 3) (i : Idx ((c : Thread nD τ).loc cc0_scratch2)) : i ∈ (vV s).set ↔ ((i : S3x512x1024.Idx) 0 : Fin 3) = s := by
  rw [show (vV s).set = (vRect s).set from View.set_slice_whole cc0_scratch2 (vRect s)]; exact mem_vRect i s
theorem mem_oV (c : Dev nD) (n : Fin 8) (i : Idx ((c : Thread nD τ).loc cc0_stg1_0)) : i ∈ (oV n).set ↔ colOf i = n := by
  rw [show (oV n).set = (tile n).set from View.set_slice_whole cc0_stg1_0 (tile n)]; exact mem_tile i n
end

/-! ## Whole to parts and back -/

/-- A buffer at some contents. -/
def AnyBuf (c : Dev nD) (b : Ref sig .tc) : sProp 𝕄 := iprop(∃ f : Buf (Elt F) ((c : Thread nD τ).loc b), ((c : Thread nD τ).loc b) ↦[Finset.univ]{fullShare} f)

omit [FloatOps F] in
theorem any_split {T : Type} [Fintype T] [DecidableEq T] (c : Dev nD) (b : Ref sig .tc) (V : T → Finset (Idx ((c : Thread nD τ).loc b)))
    (cl : Idx ((c : Thread nD τ).loc b) → T) (h : ∀ t i, i ∈ V t ↔ cl i = t) :
    (AnyBuf c b : sProp 𝕄) ⊢ bigSep Finset.univ (fun t => iprop(∃ f : Buf (Elt F) ((c : Thread nD τ).loc b), ((c : Thread nD τ).loc b) ↦[V t]{fullShare} f)) := by
  have hs : ∀ f : Buf (Elt F) ((c : Thread nD τ).loc b), (((c : Thread nD τ).loc b) ↦[Finset.univ]{fullShare} f : sProp 𝕄)
      ⊢ bigSep Finset.univ (fun t => iprop(∃ f : Buf (Elt F) ((c : Thread nD τ).loc b), ((c : Thread nD τ).loc b) ↦[V t]{fullShare} f)) := fun f => by
    rw [parts_pt V cl h]
    exact bigSep_mono fun t _ => (show _ ⊢ iprop(∃ f : Buf (Elt F) ((c : Thread nD τ).loc b), ((c : Thread nD τ).loc b) ↦[V t]{fullShare} f) from by
      iintro H; iexists f; iexact H)
  unfold AnyBuf
  iintro ⟨%f, H⟩
  iapply (hs f) $$ H
omit [FloatOps F] in
theorem any_join {T : Type} [Fintype T] [DecidableEq T] (c : Dev nD) (b : Ref sig .tc) (V : T → Finset (Idx ((c : Thread nD τ).loc b)))
    (cl : Idx ((c : Thread nD τ).loc b) → T) (h : ∀ t i, i ∈ V t ↔ cl i = t) (f₀ : Buf (Elt F) ((c : Thread nD τ).loc b)) :
    bigSep Finset.univ (fun t => iprop(∃ f : Buf (Elt F) ((c : Thread nD τ).loc b), ((c : Thread nD τ).loc b) ↦[V t]{fullShare} f)) ⊢ (AnyBuf c b : sProp 𝕄) := by
  refine BIBase.Entails.trans (bigSep_mono fun t _ => ?_) ((parts_join V cl h fullShare f₀ (fun _ _ => True) (fun _ _ _ _ _ => trivial)).trans ?_)
  · show iprop(∃ f : Buf (Elt F) ((c : Thread nD τ).loc b), ((c : Thread nD τ).loc b) ↦[V t]{fullShare} f) ⊢ _
    iintro ⟨%f, H⟩; iexists f; isplitr; · ipureintro; trivial
    iexact H
  · unfold AnyBuf
    iintro ⟨%g, -, H⟩; iexists g; iexact H

omit [FloatOps F] in
theorem b_split (c : Dev nD) : (AnyBuf c cc0_scratch0 : sProp 𝕄) ⊢ bigSep Finset.univ (fun s => Any c (bV s)) :=
  any_split c cc0_scratch0 _ _ (mem_bV c)
omit [FloatOps F] in
theorem g_split (c : Dev nD) : (AnyBuf c cc0_scratch1 : sProp 𝕄) ⊢ bigSep Finset.univ (fun s => Any c (gV s)) :=
  any_split c cc0_scratch1 _ _ (mem_gV c)
omit [FloatOps F] in
theorem v_split (c : Dev nD) : (AnyBuf c cc0_scratch2 : sProp 𝕄) ⊢ bigSep Finset.univ (fun s => Any c (vV s)) :=
  any_split c cc0_scratch2 _ _ (mem_vV c)
omit [FloatOps F] in
theorem a_split (c : Dev nD) : (AnyBuf c cc0_scratch3 : sProp 𝕄) ⊢ bigSep Finset.univ (fun s => Any c (aV s)) :=
  any_split c cc0_scratch3 _ _ (mem_aV c)
omit [FloatOps F] in
theorem o_split (c : Dev nD) : (AnyBuf c cc0_stg1_0 : sProp 𝕄) ⊢ bigSep Finset.univ (fun n => Any c (oV n)) :=
  any_split c cc0_stg1_0 _ _ (mem_oV c)

include m in
theorem b_join (c : Dev nD) : bigSep Finset.univ (fun s => Any c (bV s)) ⊢ (AnyBuf c cc0_scratch0 : sProp 𝕄) :=
  any_join c cc0_scratch0 _ _ (mem_bV c) (m _)
include m in
theorem g_join (c : Dev nD) : bigSep Finset.univ (fun s => Any c (gV s)) ⊢ (AnyBuf c cc0_scratch1 : sProp 𝕄) :=
  any_join c cc0_scratch1 _ _ (mem_gV c) (m _)
include m in
theorem v_join (c : Dev nD) : bigSep Finset.univ (fun s => Any c (vV s)) ⊢ (AnyBuf c cc0_scratch2 : sProp 𝕄) :=
  any_join c cc0_scratch2 _ _ (mem_vV c) (m _)

/-- A share of all the rows of maxima, whole. -/
def aWhole (c : Dev nD) (q : PosShare TreeShare) : sProp 𝕄 := ((c : Thread nD τ).loc cc0_scratch3) ↦[Finset.univ]{q} (aFull m ρ)
theorem a_rows (c : Dev nD) (q : PosShare TreeShare) : aWhole m ρ c q = bigSep Finset.univ (fun s => aPts m ρ c s q) :=
  parts_pt _ _ (mem_aV c) q (aFull m ρ)

/-! ## The result -/

/-- An index of a matrix. -/
def ix2 {d₀ d₁ : ℕ} (a : Fin d₀) (b : Fin d₁) : (⟨2, ![d₀, d₁]⟩ : Shape).Idx
  | ⟨0, _⟩ => a
  | ⟨1, _⟩ => b
  | ⟨n + 2, h⟩ => absurd h (by show ¬ n + 2 < 2; omega)
theorem ix2_ext {d₀ d₁ : ℕ} {i j : (⟨2, ![d₀, d₁]⟩ : Shape).Idx} (h0 : (i 0).val = (j 0).val) (h1 : (i 1).val = (j 1).val) : i = j := by
  funext a; fin_cases a
  · exact Fin.ext h0
  · exact Fin.ext h1

/-- The kernel's result on device `c`, from its tiles. -/
def outAt (c : Dev nD) : (cc0_stg1_0 : Ref sig .tc).ty.Contents (Elt F) :=
  fun i => outT m ρ c (colOf i) (ix2 (i 0 : Fin 512) ⟨((i : S512x8192.Idx) 1).val % 1024, Nat.mod_lt _ (by decide)⟩)

theorem o_join (c : Dev nD) : bigSep Finset.univ (fun n => Has c (oV n) fullShare (outT m ρ c n))
    ⊢ (((c : Thread nD τ).loc cc0_stg1_0) ↦[Finset.univ]{fullShare} (outAt m ρ c) : sProp 𝕄) := by
  refine BIBase.Entails.trans (parts_join (ℓ := (c : Thread nD τ).loc cc0_stg1_0) _ _ (mem_oV c) fullShare (m _)
    (fun n f => (oV n).read (Elt F) f = outT m ρ c n) (fun n f g hfg hf => (View.read_congr hfg).trans hf)) ?_
  iintro ⟨%g, %hg, H⟩
  rw [show g = outAt m ρ c from ?_]
  · iexact H
  · funext i
    have hi := congrFun (hg (colOf i)) (ix2 (i 0 : Fin 512) ⟨((i : S512x8192.Idx) 1).val % 1024, Nat.mod_lt _ (by decide)⟩)
    refine Eq.trans ?_ hi
    show g i = g ((oV (colOf i)).emb _)
    refine congrArg g (ix2_ext (d₀ := 512) (d₁ := 8192) ?_ ?_)
    · show ((i : S512x8192.Idx) 0).val = 0 + 1 * ((i : S512x8192.Idx) 0).val
      omega
    · show ((i : S512x8192.Idx) 1).val = 1024 * (((i : S512x8192.Idx) 1).val / 1024) + 1 * (((i : S512x8192.Idx) 1).val % 1024)
      omega

end Cert.KernelIdeal.K
end
-- ==== Proof.Rows.lean ====
/- The steps of the body from the blocks' arrival on. -/
module

public import proofs.«01_k».proof.Proof.Parts

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A program run by what is known of it, the rest after it. -/
theorem wp_call {α β : Type} (c : Dev nD) {p : Pg F α} {k : α → Pg F β} {P : sProp 𝕄} {N : α → sProp 𝕄} {Q : β → sProp 𝕄}
    (h : P ⊢ WP c p N) : P ⊢ iprop((∀ a, N a -∗ WP c (k a) Q) -∗ WP c (p >>= k) Q) := by
  unfold WP
  rw [wp_bind]
  exact h.trans (wp_wand _ _ _)

omit [FloatOps F] in
/-- Over eight: the first, and the seven after it. -/
theorem split_succ (Φ : Fin 8 → sProp 𝕄) : bigSep Finset.univ Φ = iprop(Φ 0 ∗ bigSep Finset.univ (fun i : Fin 7 => Φ i.succ)) := by
  rw [split8 (0 : Dev nD) Φ]
  have h : ∀ i : Fin 7, peer (0 : Dev nD) i = i.succ := by decide
  rw [bigSep_congr fun i _ => by rw [h i]]

theorem semLv_le (sm : SemLoc sig) : semLv sm ≤ 3 := by
  cases sm with
  | reg b => dsimp only [semLv]; split <;> decide
  | dma q => dsimp only [semLv]; split <;> decide

/-! ## A block of the inner dimension -/

theorem gFrom_eq (c : Dev nD) (i : Fin 7) : (gFrom c i).view = gV (peer c i) :=
  congrArg Memref.view (Memref.slice_unit_congr gM (k0_off17_eq c i) _ (inb_G (peer c i)) _ (fun _ => rfl))
theorem aFrom_eq (c : Dev nD) (i : Fin 7) : (aFrom c i).view = aV (peer c i) :=
  congrArg Memref.view (Memref.slice_unit_congr aM (k0_off20_eq c i) _ (inb_A (peer c i)) _ (fun _ => rfl))

/-- Credit and position for a transfer of the exchange. -/
def Due (k : Fin 4) (c : Dev nD) (i : Fin 7) : sProp 𝕄 :=
  iprop(cred (tallyAt (xCell k c (sl k c i)) () (Nk k)) ∗ atPos ER (xCell k c (sl k c i)) 0 ∅ 0)

theorem step_arrive (K : Dev nD × Ck → ℕ) (c : Dev nD) (O : CellTallies nD τ sig Unit) (hO : Above 2 O) (i : Fin 7) :
    iprop((Ctx m ρ K ∗ Ow c O) ∗ Due 1 c i)
      ⊢ WP c (stArrive c i) (fun _ => iprop((Ctx m ρ K ∗ Ow c O) ∗ Has c (gV (peer c i)) fullShare (xbl m ρ (peer c i) c) ∗ semVal (xCell 1 c (sl 1 c i)) 0)) := by
  unfold stArrive Due
  simp only [Prog.lift]
  iintro ⟨⟨#HC, HO⟩, Hc, Hat⟩
  iapply (wp_wait_x m ρ K c 1 i (fromSem cc0_scratch6 c i) (fromSem_eq cc0_scratch6 c i)
    (srcw := bM.slice (Rect.unit (s := S4096x512) ![0, 0] S512x512.size inb_S4096x512_S512x512_0_0) (fun _ => rfl)) (dstw := gFrom c i)
    (by rw [gFrom_eq]; rfl) 2 O (by rw [show xsem 1 (sl 1 c i) = xsem 1 (peer c i) from rfl, semLv_x1]) hO) $$ [Hc HO Hat]
  · isplitr; · iexact HC
    isplitl [Hc]; · iexact Hc
    isplitl [HO]; · iexact HO
    iexact Hat
  iintro ⟨Hp, Hz, HO⟩
  unfold WP
  rw [wp_ret]; imodintro
  isplitl [HO]
  · isplitr; · iexact HC
    iexact HO
  isplitl [Hp]
  · iapply (Entails.of_eq (show xPay m ρ 1 c (sl 1 c i) = Has c (gV (peer c i)) fullShare (xbl m ρ (peer c i) c) from rfl)) $$ Hp
  iexact Hz

/-- What block `d` needs: its own columns there, or their transfer. -/
def blkPre (c : Dev nD) : Fin 8 → sProp 𝕄
  | ⟨0, _⟩ => Has c (gV (blk c 0)) fullShare (xbl m ρ (blk c 0) c)
  | ⟨i + 1, h⟩ => Due 1 c ⟨i, Nat.lt_of_succ_lt_succ h⟩
def blkPost (c : Dev nD) : Fin 8 → sProp 𝕄
  | ⟨0, _⟩ => Has c (gV (blk c 0)) fullShare (xbl m ρ (blk c 0) c)
  | ⟨i + 1, h⟩ => iprop(Has c (gV (blk c (i + 1))) fullShare (xbl m ρ (blk c (i + 1)) c)
      ∗ semVal (xCell 1 c (sl 1 c ⟨i, Nat.lt_of_succ_lt_succ h⟩)) 0)

theorem step_pieces (K : Dev nD × Ck → ℕ) (c : Dev nD) (O : CellTallies nD τ sig Unit) (hO : Above 2 O) (d : Fin 8) :
    iprop(((Ctx m ρ K ∗ Ow c O ∗ Has c (gV (blk c d.val)) fullShare (xbl m ρ (blk c d.val) c)) ∗ Pipe m c (8 * d.val)) ∗ bigSep Finset.univ (fun n => OT m ρ c n d.val))
      ⊢ WP c (turns (stPiece c d) eights ⟨⟩) (fun _ => iprop(((Ctx m ρ K ∗ Ow c O ∗ Has c (gV (blk c d.val)) fullShare (xbl m ρ (blk c d.val) c))
          ∗ Pipe m c (8 * (d.val + 1))) ∗ bigSep Finset.univ (fun n => OT m ρ c n (d.val + 1)))) :=
  wp_eights c (stPiece c d) (fun n _ => iprop((Ctx m ρ K ∗ Ow c O ∗ Has c (gV (blk c d.val)) fullShare (xbl m ρ (blk c d.val) c)) ∗ Pipe m c (8 * d.val + n)))
    (fun n => OT m ρ c n d.val) (fun n => OT m ρ c n (d.val + 1)) (fun n _ => step_piece m ρ K c O (hO.le (by decide)) d n) ⟨⟩

theorem step_block (K : Dev nD × Ck → ℕ) (c : Dev nD) (O : CellTallies nD τ sig Unit) (hO : Above 2 O) (d : Fin 8) :
    iprop(((Ctx m ρ K ∗ Ow c O) ∗ Pipe m c (8 * d.val) ∗ bigSep Finset.univ (fun n => OT m ρ c n d.val)) ∗ blkPre m ρ c d)
      ⊢ WP c (stBlock c d ⟨⟩) (fun _ => iprop(((Ctx m ρ K ∗ Ow c O) ∗ Pipe m c (8 * (d.val + 1)) ∗ bigSep Finset.univ (fun n => OT m ρ c n (d.val + 1))) ∗ blkPost m ρ c d)) := by
  obtain ⟨d, hd⟩ := d
  cases d with
  | zero =>
    show _ ⊢ WP c (turns (stPiece c ⟨0, hd⟩) eights ⟨⟩) _
    rw [show blkPre m ρ c ⟨0, hd⟩ = Has c (gV (blk c (⟨0, hd⟩ : Fin 8).val)) fullShare (xbl m ρ (blk c (⟨0, hd⟩ : Fin 8).val) c) from rfl,
      show blkPost m ρ c ⟨0, hd⟩ = Has c (gV (blk c (⟨0, hd⟩ : Fin 8).val)) fullShare (xbl m ρ (blk c (⟨0, hd⟩ : Fin 8).val) c) from rfl]
    refine BIBase.Entails.trans ?_ ((step_pieces m ρ K c O hO ⟨0, hd⟩).trans (wp_mono _ _ _ fun _ => ?_))
    · iintro ⟨⟨⟨HC, HO⟩, Hp, Ho⟩, Hg⟩
      isplitr [Ho]
      · isplitr [Hp]
        · isplitl [HC]; · iexact HC
          isplitl [HO]; · iexact HO
          iexact Hg
        · iexact Hp
      · iexact Ho
    · iintro ⟨⟨⟨HC, HO, Hg⟩, Hp⟩, Ho⟩
      isplitr [Hg]
      · isplitl [HC HO]
        · isplitl [HC] <;> iassumption
        isplitl [Hp] <;> iassumption
      · iexact Hg
  | succ d =>
    show _ ⊢ WP c (stArrive c ⟨d, Nat.lt_of_succ_lt_succ hd⟩ >>= fun _ => turns (stPiece c ⟨d + 1, hd⟩) eights ⟨⟩) _
    rw [show blkPre m ρ c ⟨d + 1, hd⟩ = Due 1 c ⟨d, Nat.lt_of_succ_lt_succ hd⟩ from rfl]
    iintro ⟨⟨HCO, Hp, Ho⟩, Hd⟩
    iapply (wp_call c (step_arrive m ρ K c O hO ⟨d, Nat.lt_of_succ_lt_succ hd⟩)) $$ [HCO Hd]
    · isplitl [HCO]; · iexact HCO
      iexact Hd
    iintro %_ ⟨⟨HC, HO⟩, Hg, Hz⟩
    iapply (wp_wand _ _ _) $$ [HC HO Hg Hp Ho]
    · iapply (step_pieces m ρ K c O hO ⟨d + 1, hd⟩)
      isplitr [Ho]
      · isplitr [Hp]
        · isplitl [HC]; · iexact HC
          isplitl [HO]; · iexact HO
          iexact Hg
        · iexact Hp
      · iexact Ho
    iintro %_ ⟨⟨⟨HC, HO, Hg⟩, Hp⟩, Ho⟩
    isplitr [Hg Hz]
    · isplitl [HC HO]
      · isplitl [HC] <;> iassumption
      isplitl [Hp] <;> iassumption
    · unfold blkPost
      isplitl [Hg]; · iexact Hg
      iexact Hz

/-! ## The clamp at zero, and the maxima -/

theorem step_relu (c : Dev nD) (n : Fin 8) (a : F .f32) :
    iprop(⌜a = runMax m ρ c n.val⌝ ∗ Has c (oV n) fullShare (acc m ρ c n 7))
      ⊢ WP c (stRelu n a) (fun a' => iprop(⌜a' = runMax m ρ c (n.val + 1)⌝ ∗ Has c (oV n) fullShare (k0_pay101 (acc m ρ c n 7)))) := by
  unfold stRelu
  simp only [Prog.lift, Prog.bind_op, Prog.bind_ret, Prog.pure_eq_ret]
  iintro ⟨%ha, Ho⟩
  iapply (wp_load_has c (m := oM) (r := tile n)) $$ Ho
  iintro Ho
  ihave Ho := (Has_any c (oV n) _) $$ Ho
  iapply (wp_load_any c (m := oM) (r := tile n)) $$ Ho
  iintro Ho
  iapply (wp_store_any c (m := oM) (r := tile n)) $$ Ho
  iintro Ho
  unfold WP
  rw [wp_ret]; imodintro
  isplitr
  · ipureintro
    subst ha
    show _ = Scalar.maximumf (runMax m ρ c n.val) (tileMax (acc m ρ c (Fin.ofNat 8 n.val) 7))
    rw [show Fin.ofNat 8 n.val = n from Fin.ext (Nat.mod_eq_of_lt n.isLt)]
  · iexact Ho

theorem step_row (c : Dev nD) (a : F .f32) (ha : a = mx m ρ c) :
    Any c (aV c) ⊢ WP c (stRow c a) (fun _ => aPts m ρ c c fullShare) := by
  have key : ∀ (o : Fin 2 → Nat) (ho : o = ![c.val, 0]) (h : ∀ b, o b + S1x128.size b ≤ S8x128.size b)
      (hl : aM.view.LoadsAt (Rect.unit (s := S8x128) o S1x128.size h).toLoadRect)
      (hx : (aM.access (Rect.unit (s := S8x128) o S1x128.size h)).Stores Finset.univ)
      (hm : (Finset.univ : Finset (Rect.unit (s := S8x128) o S1x128.size h).shape.Idx) = Finset.univ ∨ ∀ b, (Rect.unit (s := S8x128) o S1x128.size h).stride b = 1),
      Any c (aV c) ⊢ WP c (.op (.load aM (Rect.unit (s := S8x128) o S1x128.size h).toLoadRect hl) fun _ =>
        .op (.store aM (Rect.unit (s := S8x128) o S1x128.size h) (shapeCast S1x128 (broadcast S1x128 a : FVec F S1x128 .f32) shapeCasts_S1x128_S1x128) Finset.univ hx hm)
          (fun b => .ret b)) (fun _ => aPts m ρ c c fullShare) := by
    intro o ho h hl hx hm
    subst ho
    iintro H
    iapply (wp_load_any c (m := aM) (r := rA c)) $$ H
    iintro H
    iapply (wp_store_any c (m := aM) (r := rA c)) $$ H
    iintro H
    unfold WP
    rw [wp_ret]; imodintro
    unfold Has
    icases H with ⟨%f, %hf, H⟩
    unfold aPts
    rw [show ((aV c).loc (c : Thread nD τ) ↦[(aV c).set]{fullShare} (aFull m ρ) : sProp 𝕄) = ((aV c).loc (c : Thread nD τ) ↦[(aV c).set]{fullShare} f) from
      pointsTo_congr fun j hj => by
        obtain ⟨x, -, rfl⟩ := Finset.mem_map.mp hj
        have hfx := congrFun hf x
        refine Eq.trans ?_ hfx.symm
        refine (show mx m ρ _ = a from ?_)
        rw [ha]
        refine congrArg (mx m ρ) (Fin.ext ?_)
        have : (x 0).val < 1 := (x 0).isLt
        show c.val + 1 * (x 0).val = c.val
        omega]
    iexact H
  unfold stRow
  simp only [Prog.lift, Prog.bind_op, Prog.bind_ret]
  exact key _ (k0_off18_eq c) _ _ _ _

theorem step_sendmax (K : Dev nD × Ck → ℕ) (c : Dev nD) (i : Fin 7) :
    iprop((Ctx m ρ K ∗ Ow c (rest (oX 3 c) i.val)) ∗ (aPts m ρ c c (Transfers.shareTokN fullShare i.val) ∗ Any (peer c i) (aV c)
        ∗ dutyTok ER (xCell 2 c i.succ) 0 0 ∗ dutyTok ER (xCell 3 (peer c i) c) 0 0))
      ⊢ WP c (stSendMax c i ⟨⟩) (fun _ => iprop((Ctx m ρ K ∗ Ow c (rest (oX 3 c) (i.val + 1))) ∗ cred (tallyAt (xCell 2 c i.succ) () NA))) := by
  unfold stSendMax
  simp only [Prog.lift, Prog.bind_op, Prog.bind_ret, Prog.pure_eq_ret]
  rw [rest_step]
  iintro ⟨⟨#HC, HO⟩, Hb, Hg, Ht0, Ht1⟩
  iapply (wp_send_max m ρ K c i (maxDev c i) (maxDev_eq c i) (ownSem cc0_scratch8 c) (ownSem_eq cc0_scratch8 c) (rest (oX 3 c) (i.val + 1)))
    $$ [Hb Hg HO Ht0 Ht1]
  · isplitr; · iexact HC
    isplitl [Hb]; · iexact Hb
    isplitl [Hg]; · iexact Hg
    isplitl [HO]; · iexact HO
    isplitl [Ht0] <;> iassumption
  iintro ⟨Hc, HO⟩
  unfold WP
  rw [wp_ret]; imodintro
  isplitl [HO]
  · isplitr; · iexact HC
    iexact HO
  · iexact Hc

/-- Waiting for a transfer when nothing is owed any more. -/
theorem wp_wait_last (K : Dev nD × Ck → ℕ) (c : Dev nD) (k : Fin 4) (i : Fin 7) (sm : DmaSem sig) (hsm : sm = xsem k (sl k c i))
    {sp sp' : Space} {s s' : Shape} {e e' : EltTy}
    {srcw : Memref sig .tc sp' s' e'} {dstw : Memref sig .tc sp s e} {hsrc : srcw.view.WordExact} {hdst : dstw.view.WordExact}
    (hN : dstw.view.dmaCredit = Nk k) :
    iprop((Ctx m ρ K ∗ Ow c 0) ∗ Due k c i)
      ⊢ WP c (Prog.lift (.waitDma2 sm srcw dstw hsrc hdst)) (fun _ => iprop((Ctx m ρ K ∗ Ow c 0) ∗ xPay m ρ k c (sl k c i) ∗ semVal (xCell k c (sl k c i)) 0)) := by
  unfold Due
  simp only [Prog.lift]
  iintro ⟨⟨#HC, HO⟩, Hc, Hat⟩
  iapply (wp_wait_x m ρ K c k i sm hsm (srcw := srcw) (dstw := dstw) hN 3 0 (semLv_le _) (Above.zero 3)) $$ [Hc HO Hat]
  · isplitr; · iexact HC
    isplitl [Hc]; · iexact Hc
    isplitl [HO]; · iexact HO
    iexact Hat
  iintro ⟨Hp, Hz, HO⟩
  unfold WP
  rw [wp_ret]; imodintro
  isplitl [HO]
  · isplitr; · iexact HC
    iexact HO
  isplitl [Hp]
  · iexact Hp
  iexact Hz

theorem step_maxarrive (K : Dev nD × Ck → ℕ) (c : Dev nD) (i : Fin 7) :
    iprop((Ctx m ρ K ∗ Ow c 0) ∗ Due 3 c i)
      ⊢ WP c (stMaxArrive c i ⟨⟩) (fun _ => iprop((Ctx m ρ K ∗ Ow c 0) ∗ aPts m ρ c (peer c i) fullShare ∗ semVal (xCell 3 c (sl 3 c i)) 0)) :=
  wp_wait_last m ρ K c 3 i _ (fromSem_eq cc0_scratch8 c i) (by rw [aFrom_eq]; rfl)
theorem step_sent (K : Dev nD × Ck → ℕ) (c : Dev nD) (i : Fin 7) :
    iprop((Ctx m ρ K ∗ Ow c 0) ∗ Due 0 c i)
      ⊢ WP c (stSent c i ⟨⟩) (fun _ => iprop((Ctx m ρ K ∗ Ow c 0) ∗ Any c (bV (peer c i)) ∗ semVal (xCell 0 c (sl 0 c i)) 0)) :=
  wp_wait_last m ρ K c 0 i _ rfl (by rw [bView_eq]; rfl)
theorem step_maxsent (K : Dev nD × Ck → ℕ) (c : Dev nD) (i : Fin 7) :
    iprop((Ctx m ρ K ∗ Ow c 0) ∗ Due 2 c i)
      ⊢ WP c (stMaxSent c i ⟨⟩) (fun _ => iprop((Ctx m ρ K ∗ Ow c 0) ∗ aPts m ρ c c (Transfers.shareTokN fullShare i.val) ∗ semVal (xCell 2 c (sl 2 c i)) 0)) :=
  wp_wait_last m ρ K c 2 i _ rfl (by rw [aOwn_eq]; rfl)

/-! ## The rows of maxima, read while they are lent -/

/-- The seven shares of a row that go out with its transfers. -/
abbrev aToks (c : Dev nD) (s : Fin 8) : sProp 𝕄 := bigSep Finset.univ (fun j : Fin 7 => aPts m ρ c s (Transfers.shareTokN fullShare j.val))
/-- The share left. -/
abbrev qLeft : PosShare TreeShare := Transfers.shareDrop fullShare 7

theorem aPts_split (c : Dev nD) (s : Fin 8) : aPts m ρ c s fullShare ⊢ iprop(aPts m ρ c s qLeft ∗ aToks m ρ c s) :=
  Transfers.pointsTo_toks_split fullShare 7
theorem aPts_join (c : Dev nD) (s : Fin 8) : iprop(aPts m ρ c s qLeft ∗ aToks m ρ c s) ⊢ aPts m ρ c s fullShare :=
  Transfers.pointsTo_toks_join fullShare 7

theorem a_gather (c : Dev nD) :
    iprop(aPts m ρ c c qLeft ∗ bigSep Finset.univ (fun i => aPts m ρ c (peer c i) fullShare))
      ⊢ iprop(aWhole m ρ c qLeft ∗ bigSep Finset.univ (fun i => aToks m ρ c (peer c i))) := by
  rw [a_rows, split8 c (fun s => aPts m ρ c s qLeft)]
  refine BIBase.Entails.trans (sep_mono_right (bigSep_mono fun i _ => aPts_split m ρ c (peer c i))) ?_
  rw [bigSep_sep']
  iintro ⟨H, H', H''⟩
  isplitr [H'']
  · isplitl [H] <;> iassumption
  iexact H''
theorem a_return (c : Dev nD) :
    iprop(aWhole m ρ c qLeft ∗ bigSep Finset.univ (fun i => aToks m ρ c (peer c i)) ∗ aToks m ρ c c) ⊢ (AnyBuf c cc0_scratch3 : sProp 𝕄) := by
  have h : iprop(aWhole m ρ c qLeft ∗ bigSep Finset.univ (fun i => aToks m ρ c (peer c i)) ∗ aToks m ρ c c) ⊢ aWhole m ρ c fullShare := by
    rw [a_rows, a_rows]
    refine BIBase.Entails.trans ?_ (bigSep_mono fun s _ => aPts_join m ρ c s)
    rw [bigSep_sep', split8 c (fun s => aToks m ρ c s)]
    iintro ⟨H, H', H''⟩
    isplitl [H]; · iexact H
    isplitl [H''] <;> iassumption
  refine h.trans ?_
  unfold aWhole AnyBuf
  iintro H; iexists _; iexact H

theorem step_quant (c : Dev nD) (n : Fin 8) (s : FVec F S1 .f32) :
    iprop(⌜s = scl m ρ⌝ ∗ Has c (oV n) fullShare (k0_pay101 (acc m ρ c n 7)))
      ⊢ WP c (stQuant n s) (fun s' => iprop(⌜s' = scl m ρ⌝ ∗ Has c (oV n) fullShare (outT m ρ c n))) := by
  unfold stQuant
  simp only [Prog.lift, Prog.bind_op, Prog.bind_ret, Prog.pure_eq_ret]
  iintro ⟨%hs, Ho⟩
  iapply (wp_load_has c (m := oM) (r := tile n)) $$ Ho
  iintro Ho
  ihave Ho := (Has_any c (oV n) _) $$ Ho
  iapply (wp_load_any c (m := oM) (r := tile n)) $$ Ho
  iintro Ho
  iapply (wp_store_any c (m := oM) (r := tile n)) $$ Ho
  iintro Ho
  unfold WP
  rw [wp_ret]; imodintro
  isplitr
  · ipureintro; exact hs
  · subst hs; iexact Ho

end Cert.KernelIdeal.K
end
-- ==== Proof.Body.lean ====
/- The whole body at a device `c`, from what it is given to what it leaves. -/
module

public import proofs.«01_k».proof.Proof.Rows

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The pieces put together -/

/-- Over a device's seven peers. -/
abbrev each (Φ : Fin 7 → sProp 𝕄) : sProp 𝕄 := bigSep Finset.univ Φ

omit [FloatOps F] in
theorem each2 (A B : Fin 7 → sProp 𝕄) : iprop(each A ∗ each B) ⊢ each (fun i => iprop(A i ∗ B i)) := by
  unfold each; rw [bigSep_sep']
omit [FloatOps F] in
theorem each2' (A B : Fin 7 → sProp 𝕄) : each (fun i => iprop(A i ∗ B i)) ⊢ iprop(each A ∗ each B) := by
  unfold each; rw [bigSep_sep']
omit [FloatOps F] in
theorem each3 (A B C : Fin 7 → sProp 𝕄) : iprop(each A ∗ each B ∗ each C) ⊢ each (fun i => iprop(A i ∗ B i ∗ C i)) :=
  (sep_mono_right (each2 B C)).trans (each2 A _)
omit [FloatOps F] in
theorem each4 (A B C D : Fin 7 → sProp 𝕄) : iprop(each A ∗ each B ∗ each C ∗ each D) ⊢ each (fun i => iprop(A i ∗ B i ∗ C i ∗ D i)) :=
  (sep_mono_right (each3 B C D)).trans (each2 A _)

/-- A device's position in the cell of one of its transfers. -/
def pos (k : Fin 4) (c : Dev nD) (i : Fin 7) : sProp 𝕄 := atPos ER (xCell k c (sl k c i)) 0 ∅ 0
def crd (k : Fin 4) (c : Dev nD) (i : Fin 7) : sProp 𝕄 := cred (tallyAt (xCell k c (sl k c i)) () (Nk k))
/-- The duties device `c` pays with its `i`-th peer. -/
def tokBar (c : Dev nD) (i : Fin 7) : sProp 𝕄 := dutyTok ER (barCell (peer c i)) 0 (rv i)
def tokS (k : Fin 4) (c : Dev nD) (i : Fin 7) : sProp 𝕄 := dutyTok ER (xCell k c i.succ) 0 0
def tokR (k : Fin 4) (c : Dev nD) (i : Fin 7) : sProp 𝕄 := dutyTok ER (xCell k (peer c i) c) 0 0

omit [FloatOps F] in
theorem due_mk (k : Fin 4) (c : Dev nD) : iprop(each (crd k c) ∗ each (pos k c)) ⊢ (each (Due k c) : sProp 𝕄) := each2 (crd k c) (pos k c)

/-- What device `c` starts with of the protocol. -/
def Ghost (c : Dev nD) : sProp 𝕄 :=
  iprop((each (tokBar c) ∗ each (tokS 0 c) ∗ each (tokR 1 c) ∗ each (tokS 2 c) ∗ each (tokR 3 c))
    ∗ atPos ER (barCell c) 0 ∅ 0 ∗ each (pos 0 c) ∗ each (pos 1 c) ∗ each (pos 2 c) ∗ each (pos 3 c))
def Creds (c : Dev nD) : sProp 𝕄 := iprop(cred (tallyAt (barCell c) () 7) ∗ each (crd 1 c) ∗ each (crd 3 c))
/-- Its scratch buffers. -/
def Scr (c : Dev nD) : sProp 𝕄 := iprop(AnyBuf c cc0_scratch0 ∗ AnyBuf c cc0_scratch1 ∗ AnyBuf c cc0_scratch2 ∗ AnyBuf c cc0_scratch3)
def wSems (c : Dev nD) : sProp 𝕄 := bigSep Finset.univ (fun s : Fin 3 => semVal ((c : Thread nD τ), .dma (wSem s)) 0)
def zs (k : Fin 4) (c : Dev nD) (i : Fin 7) : sProp 𝕄 := semVal (xCell k c (sl k c i)) 0
/-- Its cells closed. -/
def Zeros (c : Dev nD) : sProp 𝕄 := iprop(semVal (barCell c) 0 ∗ each (zs 0 c) ∗ each (zs 1 c) ∗ each (zs 2 c) ∗ each (zs 3 c))
def outPts (c : Dev nD) : sProp 𝕄 := ((c : Thread nD τ).loc cc0_stg1_0) ↦[Finset.univ]{fullShare} (outAt m ρ c)

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

theorem idle_mk (c : Dev nD) :
    iprop(AnyBuf c cc0_scratch2 ∗ wSems c ∗ wWhole m c fullShare)
      ⊢ iprop((Idle m c 0 ∗ Idle m c 1 ∗ Idle m c 2) ∗ wWhole m c (Transfers.shareDrop fullShare 3)) := by
  rw [← three (fun s => Idle m c s)]
  unfold Idle wSems
  rw [bigSep_sep', bigSep_sep']
  iintro ⟨Hv, Hs, Hw⟩
  ihave Hv := (v_split c) $$ Hv
  ihave Hw := (show wWhole m c fullShare ⊢ iprop(wWhole m c (Transfers.shareDrop fullShare 3) ∗ bigSep Finset.univ (fun s : Fin 3 => wWhole m c (wq s))) from
    Transfers.pointsTo_toks_split fullShare 3) $$ Hw
  icases Hw with ⟨Hw, Hw'⟩
  isplitr [Hw]
  · isplitl [Hs]; · iexact Hs
    isplitl [Hv]; · iexact Hv
    iexact Hw'
  · iexact Hw
theorem idle_back (c : Dev nD) :
    iprop((Idle m c 0 ∗ Idle m c 1 ∗ Idle m c 2) ∗ wWhole m c (Transfers.shareDrop fullShare 3))
      ⊢ iprop(AnyBuf c cc0_scratch2 ∗ wSems c ∗ wWhole m c fullShare) := by
  rw [← three (fun s => Idle m c s)]
  unfold Idle wSems
  rw [bigSep_sep', bigSep_sep']
  iintro ⟨⟨Hs, Hv, Hw'⟩, Hw⟩
  ihave Hv := (v_join m c) $$ Hv
  isplitl [Hv]; · iexact Hv
  isplitl [Hs]; · iexact Hs
  iapply (show iprop(wWhole m c (Transfers.shareDrop fullShare 3) ∗ bigSep Finset.univ (fun s : Fin 3 => wWhole m c (wq s))) ⊢ wWhole m c fullShare from
    Transfers.pointsTo_toks_join fullShare 3)
  isplitl [Hw] <;> iassumption

/-- The columns of the gathered block after the products. -/
theorem blk_back (c : Dev nD) : bigSep Finset.univ (blkPost m ρ c) ⊢ iprop(AnyBuf c cc0_scratch1 ∗ each (zs 1 c)) := by
  rw [split_succ]
  have h0 : blkPost m ρ c 0 ⊢ Any c (gV c) := by
    refine BIBase.Entails.trans (Entails.of_eq (show blkPost m ρ c 0 = Has c (gV (blk c 0)) fullShare (xbl m ρ (blk c 0) c) from rfl)) ?_
    rw [blk_zero]
    exact Has_any c (gV c) _
  have h1 : ∀ i : Fin 7, blkPost m ρ c i.succ ⊢ iprop(Any c (gV (peer c i)) ∗ zs 1 c i) := fun i =>
    BIBase.Entails.trans (Entails.of_eq (show blkPost m ρ c i.succ = iprop(Has c (gV (peer c i)) fullShare (xbl m ρ (peer c i) c) ∗ zs 1 c i) from rfl))
      (sep_mono_left (Has_any c (gV (peer c i)) _))
  refine BIBase.Entails.trans (BIClass.sep_mono h0 (bigSep_mono fun i _ => h1 i)) ?_
  rw [bigSep_sep']
  iintro ⟨H0, H1, Hz⟩
  isplitr [Hz]
  · iapply (g_join m c)
    rw [split8 c (fun s => Any c (gV s))]
    isplitl [H0] <;> iassumption
  · iexact Hz

theorem blk_start (c : Dev nD) : iprop(Has c (gV c) fullShare (xbl m ρ c c) ∗ each (Due 1 c)) ⊢ bigSep Finset.univ (blkPre m ρ c) := by
  rw [split_succ]
  refine BIClass.sep_mono (Entails.of_eq ?_) (bigSep_mono fun i _ => (show Due 1 c i ⊢ blkPre m ρ c i.succ from Entails.of_eq rfl))
  show _ = Has c (gV (blk c 0)) fullShare (xbl m ρ (blk c 0) c)
  rw [blk_zero]

/-- The maxima, read as the scale. -/
theorem step_col (c : Dev nD) (q : PosShare TreeShare) {hl : aM.view.LoadsAt (Rect.unit (s := S8x128) ![0, 0] S8x1.size inb_S8x128_S8x1_0_0).toLoadRect} :
    aWhole m ρ c q ⊢ WP c (Prog.lift (.load aM (Rect.unit (s := S8x128) ![0, 0] S8x1.size inb_S8x128_S8x1_0_0).toLoadRect hl))
      (fun v => iprop(⌜(k0_pay112 v : FVec F S1 .f32) = scl m ρ⌝ ∗ aWhole m ρ c q)) := by
  unfold aWhole
  simp only [Prog.lift]
  iintro H
  iapply (wp_load_rect 𝒱₀ (c : Thread nD τ) none Set.univ (m := aM) (r := Rect.unit (s := S8x128) ![0, 0] S8x1.size inb_S8x128_S8x1_0_0)
    (S := Finset.univ) (Finset.subset_univ _)) $$ H
  iintro H
  rw [wp_ret]; imodintro
  isplitr
  · ipureintro; rfl
  · iexact H

/-- What the body is given, -/
def bodyIn (K : Dev nD × Ck → ℕ) (c : Dev nD) : sProp 𝕄 :=
  iprop(Ctx m ρ K ∗ Ow c (O₀ c) ∗ Ghost c ∗ Creds c ∗ Scr c ∗ wSems c ∗ wWhole m c fullShare ∗ xPts m ρ c ∗ AnyBuf c cc0_stg1_0)
/-- and what it leaves. -/
def bodyOut (c : Dev nD) : sProp 𝕄 :=
  iprop(Ow c 0 ∗ Zeros c ∗ Scr c ∗ wSems c ∗ wWhole m c fullShare ∗ xPts m ρ c ∗ outPts m ρ c)

set_option maxHeartbeats 1600000 in
theorem run_body (K : Dev nD × Ck → ℕ) (c : Dev nD) : bodyIn m ρ K c ⊢ WP c (stBody c) (fun _ => bodyOut m ρ c) := by
  unfold bodyIn Ghost Creds Scr stBody O₀
  iintro ⟨#HC, HO, ⟨⟨HtB, Ht0, Ht1, Ht2, Ht3⟩, HaB, Hp0, Hp1, Hp2, Hp3⟩, ⟨HcB, Hc1, Hc3⟩, ⟨Hb, Hg, Hv, Ha⟩, Hs, Hw, Hx, Ho⟩
  -- arrivals
  ihave Hg := (g_split c) $$ Hg
  ihave Hg := (Entails.of_eq (split8 c (fun s => Any c (gV s)))) $$ Hg
  icases Hg with ⟨Hg, Hgs⟩
  ihave Ha := (a_split c) $$ Ha
  ihave Ha := (Entails.of_eq (split8 c (fun s => Any c (aV s)))) $$ Ha
  icases Ha with ⟨Ha, Has⟩
  iapply (wp_call c (wp_sevens c (stSignal c) (fun i _ => iprop(Ctx m ρ K ∗ Ow c (rest (oBar c) i + (rest (oX 1 c) 0 + rest (oX 3 c) 0))))
    (fun i => iprop(tokBar c i ∗ Any c (gV (peer c i)) ∗ Any c (aV (peer c i)))) (fun _ => iprop(emp))
    (fun i _ => step_signal.{1} m ρ K c _ i) ⟨⟩)) $$ [HO HtB Hgs Has]
  · isplitl [HO]
    · isplitr; · iexact HC
      iexact HO
    iapply (each3 (tokBar c) (fun i => Any c (gV (peer c i))) (fun i => Any c (aV (peer c i))))
    isplitl [HtB]; · iexact HtB
    isplitl [Hgs] <;> iassumption
  iintro %_ ⟨⟨-, HO⟩, -⟩
  rw [rest_end, zero_add]
  -- the barrier
  iapply (wp_call c (step_wait_bar m ρ K c (rest (oX 1 c) 0 + rest (oX 3 c) 0) ((above_x1 c 0).add ((above_x3 c 0).le (by decide))))) $$ [HO HcB HaB]
  · isplitl [HO]
    · isplitr; · iexact HC
      iexact HO
    isplitl [HcB] <;> iassumption
  iintro %_ ⟨⟨-, HO⟩, Hpay, HzB⟩
  ihave Hpay := (Entails.of_eq (show bigSep Finset.univ (fun i => barPay (F := F) c i) = each (fun i => iprop(Any (peer c i) (gV c) ∗ Any (peer c i) (aV c))) from rfl)) $$ Hpay
  ihave Hpay := (each2' (fun i => Any (peer c i) (gV c)) (fun i => Any (peer c i) (aV c))) $$ Hpay
  icases Hpay with ⟨Hpg, Hpa⟩
  -- the blocks sent
  ihave Hb := (b_split c) $$ Hb
  ihave Hb := (Entails.of_eq (split8 c (fun s => Any c (bV s)))) $$ Hb
  icases Hb with ⟨Hb, Hbs⟩
  iapply (wp_call c (wp_sevens c (stSend c) (fun i _ => iprop(Ctx m ρ K ∗ Ow c (rest (oX 1 c) i + rest (oX 3 c) 0) ∗ xPts m ρ c))
    (fun i => iprop(Any c (bV (peer c i)) ∗ Any (peer c i) (gV c) ∗ tokS 0 c i ∗ tokR 1 c i)) (crd 0 c)
    (fun i _ => step_send.{1} m ρ K c _ i) ⟨⟩)) $$ [HO Hx Hbs Hpg Ht0 Ht1]
  · isplitl [HO Hx]
    · isplitr; · iexact HC
      isplitl [HO] <;> iassumption
    iapply (each4 (fun i => Any c (bV (peer c i))) (fun i => Any (peer c i) (gV c)) (tokS 0 c) (tokR 1 c))
    isplitl [Hbs]; · iexact Hbs
    isplitl [Hpg]; · iexact Hpg
    isplitl [Ht0] <;> iassumption
  iintro %_ ⟨⟨-, HO, Hx⟩, Hc0⟩
  rw [rest_end, zero_add]
  -- the device's own rows
  iapply (wp_call c (step_own m ρ c)) $$ [Hx Hg]
  · isplitl [Hx] <;> iassumption
  iintro %_ ⟨Hx, Hg⟩
  -- the first weight tiles
  ihave Hi := (idle_mk m c) $$ [Hv Hs Hw]
  · isplitl [Hv]; · iexact Hv
    isplitl [Hs] <;> iassumption
  icases Hi with ⟨⟨Hi0, Hi1, Hi2⟩, Hw⟩
  iapply (wp_call c (step_start m c 0 0)) $$ [Hi0]
  · iexact Hi0
  iintro %_ Hf0
  iapply (wp_call c (step_start m c 0 1)) $$ [Hi1]
  · iexact Hi1
  iintro %_ Hf1
  -- the products
  ihave Hd1 := (due_mk 1 c) $$ [Hc1 Hp1]
  · isplitl [Hc1] <;> iassumption
  ihave Hbl := (blk_start m ρ c) $$ [Hg Hd1]
  · isplitl [Hg] <;> iassumption
  ihave Ho := (o_split c) $$ Ho
  iapply (wp_call c (wp_eights c (stBlock c) (fun d _ => iprop((Ctx m ρ K ∗ Ow c (rest (oX 3 c) 0)) ∗ Pipe m c (8 * d) ∗ bigSep Finset.univ (fun n => OT m ρ c n d)))
    (blkPre m ρ c) (blkPost m ρ c) (fun d _ => step_block.{1} m ρ K c _ (above_x3 c 0) d) ⟨⟩)) $$ [HO Hf0 Hf1 Hi2 Ho Hbl]
  · isplitr [Hbl]
    · isplitl [HO]
      · isplitr; · iexact HC
        iexact HO
      isplitr [Ho]
      · unfold Pipe
        isplitl [Hf0]; · iexact Hf0
        isplitl [Hf1]; · iexact Hf1
        iexact Hi2
      · iexact Ho
    · iexact Hbl
  iintro %_ ⟨⟨⟨-, HO⟩, HP, Ho⟩, Hbl⟩
  ihave Hbl := (blk_back m ρ c) $$ Hbl
  icases Hbl with ⟨Hg, Hz1⟩
  ihave HP := (show Pipe m c (8 * 8) ⊢ iprop(Idle m c 1 ∗ Idle m c 2 ∗ Idle m c 0) from Entails.of_eq (by
    unfold Pipe Fly; rw [if_neg (by decide), if_neg (by decide)]; rfl)) $$ HP
  icases HP with ⟨Hi1, Hi2, Hi0⟩
  ihave Hi := (idle_back m c) $$ [Hi0 Hi1 Hi2 Hw]
  · isplitr [Hw]
    · isplitl [Hi0]; · iexact Hi0
      isplitl [Hi1] <;> iassumption
    · iexact Hw
  icases Hi with ⟨Hv, Hs, Hw⟩
  -- the clamp
  iapply (wp_call c (wp_eights c stRelu (fun n a => iprop(⌜a = runMax m ρ c n⌝)) (fun n => Has c (oV n) fullShare (acc m ρ c n 7))
    (fun n => Has c (oV n) fullShare (k0_pay101 (acc m ρ c n 7))) (fun n a => step_relu m ρ c n a) _)) $$ [Ho]
  · isplitr
    · ipureintro; rfl
    · iexact Ho
  iintro %a ⟨%ha, Ho⟩
  -- the maxima
  iapply (wp_call c (step_row m ρ c a ha)) $$ [Ha]
  · iexact Ha
  iintro %_ Ha
  ihave Ha := (aPts_split m ρ c c) $$ Ha
  icases Ha with ⟨Ha, Hat⟩
  iapply (wp_call c (wp_sevens c (stSendMax c) (fun i _ => iprop(Ctx m ρ K ∗ Ow c (rest (oX 3 c) i)))
    (fun i => iprop(aPts m ρ c c (Transfers.shareTokN fullShare i.val) ∗ Any (peer c i) (aV c) ∗ tokS 2 c i ∗ tokR 3 c i)) (crd 2 c)
    (fun i _ => step_sendmax.{1} m ρ K c i) ⟨⟩)) $$ [HO Hat Hpa Ht2 Ht3]
  · isplitl [HO]
    · isplitr; · iexact HC
      iexact HO
    iapply (each4 (fun i => aPts m ρ c c (Transfers.shareTokN fullShare i.val)) (fun i => Any (peer c i) (aV c)) (tokS 2 c) (tokR 3 c))
    isplitl [Hat]; · iexact Hat
    isplitl [Hpa]; · iexact Hpa
    isplitl [Ht2] <;> iassumption
  iintro %_ ⟨⟨-, HO⟩, Hc2⟩
  rw [rest_end]
  ihave Hd3 := (due_mk 3 c) $$ [Hc3 Hp3]
  · isplitl [Hc3] <;> iassumption
  iapply (wp_call c (wp_sevens c (stMaxArrive c) (fun _ _ => iprop(Ctx m ρ K ∗ Ow c 0)) (Due 3 c)
    (fun i => iprop(aPts m ρ c (peer c i) fullShare ∗ zs 3 c i)) (fun i _ => step_maxarrive.{1} m ρ K c i) ⟨⟩)) $$ [HO Hd3]
  · isplitl [HO]
    · isplitr; · iexact HC
      iexact HO
    iexact Hd3
  iintro %_ ⟨⟨-, HO⟩, Has⟩
  ihave Has := (each2' (fun i => aPts m ρ c (peer c i) fullShare) (zs 3 c)) $$ Has
  icases Has with ⟨Has, Hz3⟩
  ihave Haw := (a_gather m ρ c) $$ [Ha Has]
  · isplitl [Ha] <;> iassumption
  icases Haw with ⟨Haw, Hats⟩
  -- the scale
  iapply (wp_call c (step_col m ρ c qLeft)) $$ [Haw]
  · iexact Haw
  iintro %v ⟨%hv, Haw⟩
  rw [hv]
  iapply (wp_call c (wp_eights c stQuant (fun _ s => iprop(⌜s = scl m ρ⌝)) (fun n => Has c (oV n) fullShare (k0_pay101 (acc m ρ c n 7)))
    (fun n => Has c (oV n) fullShare (outT m ρ c n)) (fun n s => step_quant m ρ c n s) _)) $$ [Ho]
  · isplitr
    · ipureintro; rfl
    · iexact Ho
  iintro %_ ⟨-, Ho⟩
  ihave Ho := (o_join m ρ c) $$ Ho
  -- what was sent has left
  ihave Hd0 := (due_mk 0 c) $$ [Hc0 Hp0]
  · isplitl [Hc0] <;> iassumption
  iapply (wp_call c (wp_sevens c (stSent c) (fun _ _ => iprop(Ctx m ρ K ∗ Ow c 0)) (Due 0 c)
    (fun i => iprop(Any c (bV (peer c i)) ∗ zs 0 c i)) (fun i _ => step_sent.{1} m ρ K c i) ⟨⟩)) $$ [HO Hd0]
  · isplitl [HO]
    · isplitr; · iexact HC
      iexact HO
    iexact Hd0
  iintro %_ ⟨⟨-, HO⟩, Hbs⟩
  ihave Hbs := (each2' (fun i => Any c (bV (peer c i))) (zs 0 c)) $$ Hbs
  icases Hbs with ⟨Hbs, Hz0⟩
  ihave Hd2 := (due_mk 2 c) $$ [Hc2 Hp2]
  · isplitl [Hc2] <;> iassumption
  iapply (wp_wand _ _ _) $$ [HO Hd2]
  · iapply (wp_sevens c (stMaxSent c) (fun _ _ => iprop(Ctx m ρ K ∗ Ow c 0)) (Due 2 c)
      (fun i => iprop(aPts m ρ c c (Transfers.shareTokN fullShare i.val) ∗ zs 2 c i)) (fun i _ => step_maxsent.{1} m ρ K c i) ⟨⟩)
    isplitl [HO]
    · isplitr; · iexact HC
      iexact HO
    iexact Hd2
  iintro %_ ⟨⟨-, HO⟩, Hat⟩
  ihave Hat := (each2' (fun i => aPts m ρ c c (Transfers.shareTokN fullShare i.val)) (zs 2 c)) $$ Hat
  icases Hat with ⟨Hat, Hz2⟩
  ihave Ha := (a_return m ρ c) $$ [Haw Hats Hat]
  · isplitl [Haw]; · iexact Haw
    isplitl [Hats]; · iexact Hats
    iexact Hat
  ihave Hb := (b_join m c) $$ [Hb Hbs]
  · rw [split8 c (fun s => Any c (bV s))]
    isplitl [Hb] <;> iassumption
  unfold bodyOut Zeros Scr outPts
  isplitl [HO]; · iexact HO
  isplitl [HzB Hz0 Hz1 Hz2 Hz3]
  · isplitl [HzB]; · iexact HzB
    isplitl [Hz0]; · iexact Hz0
    isplitl [Hz1]; · iexact Hz1
    isplitl [Hz2] <;> iassumption
  isplitl [Hb Hg Hv Ha]
  · isplitl [Hb]; · iexact Hb
    isplitl [Hg]; · iexact Hg
    isplitl [Hv] <;> iassumption
  isplitl [Hs]; · iexact Hs
  isplitl [Hw]; · iexact Hw
  isplitl [Hx] <;> iassumption

end Cert.KernelIdeal.K
end
-- ==== Proof.Cells.lean ====
/- The launch of the protocol: its cells, the duty tokens dealt to the devices that pay them, the credit each device gets. -/
module

public import proofs.«01_k».proof.Proof.Body

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the three of the weight copies, and four arrays of eight. -/
abbrev Ow35 := Fin 3 ⊕ (Fin 4 × Fin 8)
abbrev osem : Ow35 → SemLoc sig
  | .inl s => .dma (wSem s)
  | .inr (k, s) => .dma (xsem k s)

set_option maxRecDepth 20000 in
set_option maxHeartbeats 1000000 in
theorem ownSemFacts : Pipeline.OwnSemFacts cfg0.spec osem where
  isScoped := by rintro (s | ⟨k, s⟩) <;> revert s <;> [skip; revert k] <;> decide
  inj := by
    have hx : ∀ p q : Fin 4 × Fin 8, xsem p.1 p.2 = xsem q.1 q.2 → p = q := fun p q h => by
      have := congrArg kindOf h; rw [kindOf_xsem, kindOf_xsem] at this; exact Option.some.inj this
    have hw : ∀ s t : Fin 3, wSem s = wSem t → s = t := by decide
    rintro (s | p) (t | q) h
    · exact congrArg Sum.inl (hw s t (SemLoc.dma.inj h))
    · have := congrArg kindOf (SemLoc.dma.inj h); rw [kindOf_wSem, kindOf_xsem] at this; cases this
    · have := congrArg kindOf (SemLoc.dma.inj h); rw [kindOf_wSem, kindOf_xsem] at this; cases this
    · exact congrArg Sum.inr (hx p q (SemLoc.dma.inj h))
  disj := by rintro (s | ⟨k, s⟩) <;> revert s <;> [skip; revert k] <;> decide

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The slots no transfer uses: a device sends itself nothing. -/
def Spare (c : Dev nD) : sProp 𝕄 :=
  iprop(semVal (xCell 0 c 0) 0 ∗ semVal (xCell 1 c c) 0 ∗ semVal (xCell 2 c 0) 0 ∗ semVal (xCell 3 c c) 0)

omit [FloatOps F] in
theorem ownSems_eq (c : Dev nD) : (Pipeline.ownSems0 (Ix := Unit) (Name := ℕ) (U := UU) (Lvl := ℕ) (Val := Elt F) (τ := τ) osem c : sProp 𝕄)
    = iprop(wSems c ∗ (semVal (xCell 0 c 0) 0 ∗ each (zs 0 c)) ∗ (semVal (xCell 1 c c) 0 ∗ each (zs 1 c))
        ∗ (semVal (xCell 2 c 0) 0 ∗ each (zs 2 c)) ∗ (semVal (xCell 3 c c) 0 ∗ each (zs 3 c))) := by
  unfold Pipeline.ownSems0
  rw [bigSep_univ_sum, bigSep_univ_prod, four, split_succ, split8 c, split_succ, split8 c]
  rfl

omit [FloatOps F] in
theorem sems_take (c : Dev nD) :
    (Pipeline.ownSems0 (Ix := Unit) (Name := ℕ) (U := UU) (Lvl := ℕ) (Val := Elt F) (τ := τ) osem c : sProp 𝕄)
      ⊢ iprop((each (zs 0 c) ∗ each (zs 1 c) ∗ each (zs 2 c) ∗ each (zs 3 c)) ∗ wSems c ∗ Spare c) := by
  rw [ownSems_eq]; unfold Spare
  iintro ⟨Hw, ⟨H0, Z0⟩, ⟨H1, Z1⟩, ⟨H2, Z2⟩, H3, Z3⟩
  isplitl [Z0 Z1 Z2 Z3]
  · isplitl [Z0]; · iexact Z0
    isplitl [Z1]; · iexact Z1
    isplitl [Z2] <;> iassumption
  isplitl [Hw]; · iexact Hw
  isplitl [H0]; · iexact H0
  isplitl [H1]; · iexact H1
  isplitl [H2] <;> iassumption
omit [FloatOps F] in
theorem sems_give (c : Dev nD) :
    iprop((each (zs 0 c) ∗ each (zs 1 c) ∗ each (zs 2 c) ∗ each (zs 3 c)) ∗ wSems c ∗ Spare c)
      ⊢ (Pipeline.ownSems0 (Ix := Unit) (Name := ℕ) (U := UU) (Lvl := ℕ) (Val := Elt F) (τ := τ) osem c : sProp 𝕄) := by
  rw [ownSems_eq]; unfold Spare
  iintro ⟨⟨Z0, Z1, Z2, Z3⟩, Hw, H0, H1, H2, H3⟩
  isplitl [Hw]; · iexact Hw
  isplitl [H0 Z0]; · isplitl [H0] <;> iassumption
  isplitl [H1 Z1]; · isplitl [H1] <;> iassumption
  isplitl [H2 Z2]; · isplitl [H2] <;> iassumption
  isplitl [H3] <;> iassumption

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Over the cells of a device: its barrier, and the four kinds. -/
theorem cells_of (Φ : Ck → sProp 𝕄) :
    bigSep Finset.univ Φ = iprop(Φ none ∗ each (fun i => Φ (some (0, i))) ∗ each (fun i => Φ (some (1, i))) ∗ each (fun i => Φ (some (2, i))) ∗ each (fun i => Φ (some (3, i)))) := by
  have hu : (Finset.univ : Finset Ck) = insert none (Finset.univ.map ⟨some, Option.some_injective _⟩) := by
    ext o; cases o <;> simp
  rw [hu, bigSep_ins (by simp), bigSep_map, bigSep_univ_prod, four]; rfl

/-! ## The cells and their tokens -/

theorem sl_inj (k : Fin 4) (c : Dev nD) : Function.Injective (sl k c) := by revert k c; decide

theorem csem_inj (c : Dev nD) : Function.Injective (csem c) := by
  rintro (_ | ⟨k, i⟩) (_ | ⟨k', i'⟩) h
  · rfl
  · cases h
  · cases h
  · have := congrArg kindOf (SemLoc.dma.inj h)
    rw [kindOf_xsem, kindOf_xsem] at this
    obtain ⟨rfl, h2⟩ := Prod.mk.inj (Option.some.inj this)
    rw [sl_inj k c h2]

theorem dev_of {a b : Dev nD} {x y : SemLoc sig} (h : (((a : Thread nD τ), x) : GSem nD τ sig) = ((b : Thread nD τ), y)) : a = b :=
  congrArg (fun g : GSem nD τ sig => g.1.1) h

theorem kcell_inj : Function.Injective (kcell : Dev nD × Ck → GSem nD τ sig) := by
  rintro ⟨c, k⟩ ⟨c', k'⟩ h
  obtain rfl := dev_of h
  exact Prod.ext rfl (csem_inj c (congrArg Prod.snd h))

def allCells : Finset (GSem nD τ sig) := Finset.univ.map ⟨kcell, kcell_inj⟩

/-- A device's cells' duties: seven at the barrier, one at each of the others. -/
abbrev Tk := Fin 7 ⊕ (Fin 4 × Fin 7)
abbrev tokOf (p : Dev nD × Tk) : GSem nD τ sig × ℕ × Fin 7 := match p.2 with
  | .inl d => (barCell p.1, 0, d)
  | .inr (k, i) => (xCell k p.1 (sl k p.1 i), 0, 0)
theorem tokOf_inj : Function.Injective (tokOf : Dev nD × Tk → GSem nD τ sig × ℕ × Fin 7) := by
  rintro ⟨c, d | ⟨k, i⟩⟩ ⟨c', d' | ⟨k', i'⟩⟩ h
  · obtain rfl := dev_of (congrArg Prod.fst h)
    have : d = d' := congrArg (fun x : GSem nD τ sig × ℕ × Fin 7 => x.2.2) h
    rw [this]
  · have := congrArg (fun x : GSem nD τ sig × ℕ × Fin 7 => x.1.2) h; cases this
  · have := congrArg (fun x : GSem nD τ sig × ℕ × Fin 7 => x.1.2) h; cases this
  · have h1 : kcell (c, some (k, i)) = kcell (c', some (k', i')) := congrArg Prod.fst h
    have h2 := kcell_inj h1
    obtain ⟨rfl, h3⟩ := Prod.mk.inj h2
    rw [Option.some.inj h3]
def allToks : Finset (GSem nD τ sig × ℕ × Fin 7) := Finset.univ.map ⟨tokOf, tokOf_inj⟩

def u₀ : UU := (initOf (Pipeline.cells cfgs cellOf_inj) (Pipeline.launchToks cfgs cellOf_inj), (initOf allCells allToks, 1))

omit [FloatOps F] in
theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A device's own cells' tokens, -/
def ownToks (c : Dev nD) : sProp 𝕄 :=
  iprop(each (fun d => dutyTok ER (barCell c) 0 d)
    ∗ each (fun i => dutyTok ER (xCell 0 c (sl 0 c i)) 0 0) ∗ each (fun i => dutyTok ER (xCell 1 c (sl 1 c i)) 0 0)
    ∗ each (fun i => dutyTok ER (xCell 2 c (sl 2 c i)) 0 0) ∗ each (fun i => dutyTok ER (xCell 3 c (sl 3 c i)) 0 0))
/-- and those of the duties it pays. -/
def payToks (c : Dev nD) : sProp 𝕄 :=
  iprop(each (tokBar c) ∗ each (tokS 0 c) ∗ each (tokR 1 c) ∗ each (tokS 2 c) ∗ each (tokR 3 c))

omit [FloatOps F] in
theorem swapped (Φ : Dev nD → Fin 7 → sProp 𝕄) :
    bigSep Finset.univ (fun c : Dev nD => each (Φ c)) = bigSep Finset.univ (fun c : Dev nD => each (fun i => Φ (peer c i) (rv i))) := by
  rw [← bigSep_univ_prod (fun p : Dev nD × Fin 7 => Φ p.1 p.2), bigSep_univ_equiv swapPair, bigSep_univ_prod]; rfl

omit [FloatOps F] in
theorem toks_dealt : bigSep Finset.univ (fun c : Dev nD => (ownToks c : sProp 𝕄)) ⊢ bigSep Finset.univ (fun c : Dev nD => payToks c) := by
  have hR : ∀ k : Fin 4, (∀ c i, sl k c i = peer c i) →
      bigSep Finset.univ (fun c : Dev nD => (each (fun i => dutyTok ER (xCell k c (sl k c i)) 0 0) : sProp 𝕄))
        = bigSep Finset.univ (fun c : Dev nD => each (tokR k c)) := fun k hk => by
    rw [swapped (fun c i => dutyTok ER (xCell k c (sl k c i)) 0 0)]
    refine bigSep_congr fun c _ => bigSep_congr fun i _ => ?_
    rw [hk, peer_peer]; rfl
  refine Entails.of_eq ?_
  unfold ownToks payToks
  simp only [bigSep_sep']
  rw [hR 1 (fun _ _ => rfl), hR 3 (fun _ _ => rfl), swapped (fun c d => dutyTok ER (barCell c) 0 d)]
  rfl

/-! ## What each device is dealt -/

def G (c : Dev nD) : sProp 𝕄 :=
  iprop((bigSep Finset.univ fun k : Ck => roundState ER (Rd m ρ) (kcell (c, k)) 0)
    ∗ (bigSep Finset.univ fun k : Ck => atPos ER (kcell (c, k)) 0 ∅ 0)
    ∗ (bigSep Finset.univ fun k : Ck => reached ER (kcell (c, k)) 0) ∗ ownToks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, bigSep_univ_prod, four]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The cells' invariants, known to all. -/
def Known (K : Dev nD × Ck → ℕ) : sProp 𝕄 :=
  bigSep Finset.univ (fun p : Dev nD × Ck => iprop(cellInv ER (Rd m ρ) (K p) (kcell p) ∗ reached ER (kcell p) 0))
instance Known_persistent (K : Dev nD × Ck → ℕ) : BI.Persistent (Known (F := F) m ρ K) := by unfold Known; infer_instance

def G' (c : Dev nD) : sProp 𝕄 := iprop((∃ K, Known m ρ K) ∗ Ghost c ∗ wSems c ∗ Spare c)

/-- What stays with a device from its own cells. -/
def Kept (c : Dev nD) : sProp 𝕄 :=
  iprop((bigSep Finset.univ fun k : Ck => atPos ER (kcell (c, k)) 0 ∅ 0) ∗ wSems c ∗ Spare c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => reached ER (kcell (c, k)) 0) ∗ ownToks c ∗ Kept c) := by
  unfold G Kept
  rw [unscoped_eq]
  iintro ⟨Hos, Hus, Hst, Hat, Hr, Htok⟩
  ihave Hos := (sems_take c) $$ Hos
  icases Hos with ⟨⟨Z0, Z1, Z2, Z3⟩, Hw, Hsp⟩
  imod (show iprop((bigSep Finset.univ fun k : Ck => semVal (kcell (c, k)) 0) ∗ bigSep Finset.univ fun k : Ck => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hus Z0 Z1 Z2 Z3 Hst] with Hinv
  · isplitr [Hst]
    · rw [cells_of]
      isplitl [Hus]; · iexact Hus
      isplitl [Z0]; · iexact Z0
      isplitl [Z1]; · iexact Z1
      isplitl [Z2]; · iexact Z2
      iexact Z3
    · iexact Hst
  imodintro
  isplitl [Hinv]; · iexact Hinv
  isplitl [Hr]; · iexact Hr
  isplitl [Htok]; · iexact Htok
  isplitl [Hat]; · iexact Hat
  isplitl [Hw] <;> iassumption

omit [FloatOps F] in
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Ck → ℕ) (c : Dev nD) : iprop(Known m ρ K ∗ payToks c ∗ Kept c) ⊢ G' m ρ c := by
  unfold payToks Kept G' Ghost
  rw [cells_of]
  iintro ⟨#HK, HT, ⟨HB, H0, H1, H2, H3⟩, Hw, Hs⟩
  isplitr; · iexists K; iexact HK
  isplitl [HT HB H0 H1 H2 H3]
  · isplitl [HT]; · iexact HT
    isplitl [HB]; · iexact HB
    isplitl [H0]; · iexact H0
    isplitl [H1]; · iexact H1
    isplitl [H2]; · iexact H2
    iexact H3
  isplitl [Hw] <;> iassumption

theorem regroup :
    (bigSep Finset.univ fun c : Dev nD => iprop((bigSep Finset.univ fun k => iprop(∃ κ : ℕ, cellInv ER (Rd m ρ) κ (kcell (c, k))))
          ∗ (bigSep Finset.univ fun k => reached ER (kcell (c, k)) 0) ∗ ownToks c ∗ Kept c) : sProp 𝕄)
      ⊢ bigSep Finset.univ (G' m ρ) := by
  rw [bigSep_sep', bigSep_sep', bigSep_sep', ← bigSep_univ_prod (fun p : Dev nD × Ck => iprop(∃ κ : ℕ, cellInv ER (Rd m ρ) κ (kcell p))),
    ← bigSep_univ_prod (fun p : Dev nD × Ck => (reached ER (kcell p) 0 : sProp 𝕄))]
  iintro ⟨HI, #HR, Htok, Hk⟩
  ihave HK := (BI.bigSep_exists_pi Finset.univ (fun (p : Dev nD × Ck) (κ : ℕ) => (cellInv ER (Rd m ρ) κ (kcell p) : sProp 𝕄))) $$ HI
  icases HK with ⟨%K, #HI⟩
  ihave Htk := (toks_dealt (F := F)) $$ Htok
  iapply (with_known (R := Known m ρ K) fun c _ => deal m ρ K c)
  isplitr
  · unfold Known; rw [bigSep_sep']
    isplitl; · iexact HI
    iexact HR
  · rw [bigSep_sep']
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of the launch -/

theorem rest_all (f : Fin 7 → CellTallies nD τ sig Unit) (g : GSem nD τ sig) : rest f 0 g () = ∑ j : Fin 7, f j g () := by
  unfold rest
  rw [show Finset.univ.filter (fun j : Fin 7 => 0 ≤ j.val) = Finset.univ from by decide]
  rw [Finset.sum_apply, Finsupp.finset_sum_apply]

theorem O₀_at (d : Dev nD) (g : GSem nD τ sig) :
    O₀ d g () = (∑ j : Fin 7, oBar d j g ()) + ((∑ j : Fin 7, oX 1 d j g ()) + ∑ j : Fin 7, oX 3 d j g ()) := by
  unfold O₀
  rw [Pi.add_apply, Finsupp.add_apply, Pi.add_apply, Finsupp.add_apply, rest_all, rest_all, rest_all]

theorem x_cell_iff {k k' : Fin 4} {c c' : Dev nD} {s s' : Fin 8} : Iff (xCell k c s = xCell k' c' s') (k = k' ∧ c = c' ∧ s = s') :=
  ⟨fun h => by
    have := congrArg kindOf (SemLoc.dma.inj (congrArg Prod.snd h))
    rw [kindOf_xsem, kindOf_xsem] at this
    exact ⟨congrArg Prod.fst (Option.some.inj this), dev_of h, congrArg Prod.snd (Option.some.inj this)⟩,
   fun ⟨h1, h2, h3⟩ => by rw [h1, h2, h3]⟩

theorem oX_at (k k' : Fin 4) (d c : Dev nD) (s : Fin 8) (j : Fin 7) :
    oX k' d j (xCell k c s) () = if k = k' ∧ c = peer d j ∧ s = d then Nk k' else 0 := by
  unfold oX
  rw [tallyAt_apply]
  exact if_congr ⟨fun h => x_cell_iff.mp h.1, fun h => ⟨x_cell_iff.mpr h, rfl⟩⟩ rfl rfl
theorem oX_bar (k : Fin 4) (d c : Dev nD) (j : Fin 7) : oX k d j (barCell c) () = 0 := by
  unfold oX
  rw [tallyAt_apply, if_neg]
  intro h; have := congrArg Prod.snd h.1; cases this
theorem oBar_x (k : Fin 4) (d c : Dev nD) (s : Fin 8) (j : Fin 7) : oBar d j (xCell k c s) () = 0 := by
  unfold oBar
  rw [tallyAt_apply, if_neg]
  intro h; have := congrArg Prod.snd h.1; cases this
theorem oBar_at (d c : Dev nD) (j : Fin 7) : oBar d j (barCell c) () = if c = peer d j then 1 else 0 := by
  unfold oBar
  rw [tallyAt_apply]
  exact if_congr ⟨fun h => dev_of h.1, fun h => ⟨by rw [h], rfl⟩⟩ rfl rfl

theorem meet_count (c : Dev nD) : (∑ d : Dev nD, ∑ j : Fin 7, if c = peer d j then 1 else 0) = 7 := by revert c; decide

theorem owed_bar (c : Dev nD) : (∑ d : Dev nD, O₀ d (barCell c) ()) = 7 := by
  rw [← meet_count c]
  refine Finset.sum_congr rfl fun d _ => ?_
  rw [O₀_at]
  simp only [oX_bar, oBar_at, Finset.sum_const_zero, Nat.add_zero]

/-- Of all turns just one sends from the `i`-th peer of `c` to `c`. -/
theorem sum_turn (c : Dev nD) (i : Fin 7) (N : ℕ) : (∑ d : Dev nD, ∑ j : Fin 7, if c = peer d j ∧ peer c i = d then N else 0) = N := by
  rw [Finset.sum_eq_single (peer c i), Finset.sum_eq_single (rv i)]
  · rw [if_pos ⟨(peer_peer c i).symm, rfl⟩]
  · intro j _ hj
    rw [if_neg]
    exact fun h => hj (peer_inj (peer c i) (h.1.symm.trans (peer_peer c i).symm))
  · exact fun h => absurd (Finset.mem_univ _) h
  · intro d _ hd
    exact Finset.sum_eq_zero fun j _ => if_neg fun h => hd h.2.symm
  · exact fun h => absurd (Finset.mem_univ _) h

theorem owed_x (k : Fin 4) (hk : k = 1 ∨ k = 3) (c : Dev nD) (i : Fin 7) : (∑ d : Dev nD, O₀ d (xCell k c (peer c i)) ()) = Nk k := by
  rw [← sum_turn c i (Nk k)]
  refine Finset.sum_congr rfl fun d _ => ?_
  rw [O₀_at]
  simp only [oX_at, oBar_x, Finset.sum_const_zero, Nat.zero_add]
  rcases hk with rfl | rfl
  · simp
  · simp

theorem credit_of (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
omit [FloatOps F] in
theorem cred_of (g : GSem nD τ sig) (n : ℕ) (h : (∑ d : Dev nD, O₀ d g ()) = n) :
    (cred (tallyOn g (launchCredit (Pipeline.owing O₀) 0 g)) : sProp 𝕄) = cred (tallyAt g () n) := by
  rw [credit_of g n h]

omit [FloatOps F] in
theorem creds (c : Dev nD) : (Pipeline.launchCred O₀ c : sProp 𝕄) ⊢ Creds c := by
  have h0 : (Pipeline.launchCred O₀ c : sProp 𝕄)
      ⊢ bigSep (Finset.univ.map ⟨csem c, csem_inj c⟩)
          (fun sm => cred (tallyOn ((c : Thread nD τ), sm) (launchCredit (Pipeline.owing O₀) 0 ((c : Thread nD τ), sm)))) := by
    unfold Pipeline.launchCred
    exact bigSep_subset (Finset.subset_univ _)
  refine BIBase.Entails.trans h0 ?_
  rw [bigSep_map, cells_of]
  have h1 : ∀ k : Fin 4, (k = 1 ∨ k = 3) → ∀ i : Fin 7,
      (cred (tallyOn (xCell k c (sl k c i)) (launchCredit (Pipeline.owing O₀) 0 (xCell k c (sl k c i)))) : sProp 𝕄) = crd k c i := fun k hk i => by
    refine cred_of (xCell k c (sl k c i)) (Nk k) ?_
    have hs : sl k c i = peer c i := by rcases hk with rfl | rfl <;> rfl
    rw [hs]; exact owed_x k hk c i
  unfold Creds
  iintro ⟨HB, -, H1, -, H3⟩
  isplitl [HB]
  · iapply (show (cred (tallyOn (barCell c) (launchCredit (Pipeline.owing O₀) 0 (barCell c))) : sProp 𝕄) ⊢ cred (tallyAt (barCell c) () 7) from
      Entails.of_eq (cred_of (barCell c) 7 (owed_bar c)))
    iexact HB
  isplitl [H1]
  · iapply (show each (fun i => (cred (tallyOn (xCell 1 c (sl 1 c i)) (launchCredit (Pipeline.owing O₀) 0 (xCell 1 c (sl 1 c i)))) : sProp 𝕄)) ⊢ each (crd 1 c) from
      bigSep_mono fun i _ => Entails.of_eq (h1 1 (Or.inl rfl) i))
    iexact H1
  · iapply (show each (fun i => (cred (tallyOn (xCell 3 c (sl 3 c i)) (launchCredit (Pipeline.owing O₀) 0 (xCell 3 c (sl 3 c i)))) : sProp 𝕄)) ⊢ each (crd 3 c) from
      bigSep_mono fun i _ => Entails.of_eq (h1 3 (Or.inr rfl) i))
    iexact H3

end Cert.KernelIdeal.K

end
-- ==== Proof.StepsEq.lean ====
/- The printed body is the loops of `Steps`: unrolled, the two are one text. -/
module

public import proofs.«01_k».proof.Proof.Steps

@[expose] public section

noncomputable section

namespace Cert.KernelIdeal.K

open Idealize.ShloMosaic Idealize.ShloMosaic.TcCoe Idealize.SL.Sem
open Cert.KernelIdeal.Gen

variable {F : FTy → Type} [FloatOps F]

set_option maxRecDepth 1000000 in
set_option maxHeartbeats 0 in
/-- The printed body is these loops. -/
theorem body_eq :
    cc0_body_skel (F := F) (Memref.whole cc0_stg0_0) (Memref.isWhole_whole _) (Memref.whole main_arg1) (Memref.isWhole_whole _)
      (Memref.whole cc0_stg1_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8
    = (Prog.lift .deviceId >>= fun c => stBody c) := by
  with_unfolding_all rfl

end Cert.KernelIdeal.K
end
-- ==== Proof.Launch.lean ====
/- The run of the whole mesh: every execution ends, with each device's result computed, its arguments unchanged and every
   counter at zero. -/
module

public import proofs.«01_k».proof.Proof.Cells
public import proofs.«01_k».proof.Proof.StepsEq
public import Idealize.ShloMosaic.Lib.Pipeline.CollectiveSegs

@[expose] public section

noncomputable section

namespace Cert.KernelIdeal.K

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the launch hands the body, and takes back -/

/-- What device `c` starts from, -/
def start (c : Dev nD) : sProp 𝕄 :=
  iprop((∃ K, Ctx m ρ K) ∗ Ghost c ∗ Creds c ∗ wSems c ∗ Spare c ∗ wWhole m c fullShare)
def Φ₀ (c : Dev nD) : sProp 𝕄 := iprop(start m ρ c ∗ Scr c)
/-- and what it ends with. -/
def Φ₁ (c : Dev nD) : sProp 𝕄 := iprop(Zeros c ∗ wSems c ∗ Spare c ∗ wWhole m c fullShare ∗ Scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] in
/-- A staging buffer held at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def before (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def after (c : Dev nD) : sProp 𝕄 :=
  iprop(Φ₁ m c ∗ (dats m ρ 0 c).owesAt () t0_0.succ ∗ stg c cc0_stg0_0 (xstg m ρ c) ∗ stg c cc0_stg1_0 (outAt m ρ c))

theorem enter (c : Dev nD) : before m ρ c ⊢ iprop(∃ K, bodyIn m ρ K c ∗ Spare c) := by
  unfold before Φ₀ start bodyIn Ow xPts AnyBuf
  iintro ⟨⟨⟨⟨%K, #HC⟩, HG, Hc, Hs, Hsp, Hw⟩, Hscr⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iexists K
  isplitr [Hsp]
  · isplitr; · iexact HC
    isplitl [HO]; · iexists W; iexact HO
    isplitl [HG]; · iexact HG
    isplitl [Hc]; · iexact Hc
    isplitl [Hscr]; · iexact Hscr
    isplitl [Hs]; · iexact Hs
    isplitl [Hw]; · iexact Hw
    isplitl [Hx]; · iexact Hx
    iexists g1; iexact Hout
  · iexact Hsp

theorem leave (c : Dev nD) : iprop(bodyOut m ρ c ∗ Spare c) ⊢ after m ρ c := by
  unfold bodyOut after Φ₁ Ow xPts outPts Dat.owesAt Pipeline.owesWithin
  rw [show (dats m ρ 0 c).owed t0_0.succ = 0 from rfl]
  iintro ⟨⟨⟨%W, HO⟩, HZ, Hscr, Hs, Hw, Hx, Hout⟩, Hsp⟩
  isplitl [HZ Hscr Hs Hw Hsp]
  · isplitl [HZ]; · iexact HZ
    isplitl [Hs]; · iexact Hs
    isplitl [Hsp]; · iexact Hsp
    isplitl [Hw] <;> iassumption
  isplitl [HO]
  · iexists W
    isplitr; · ipureintro; exact fun _ _ => Or.inl trivial
    iexact HO
  isplitl [Hx]
  · iexists _; isplitr; · (ipureintro; rfl)
    iexact Hx
  · iexists _; isplitr; · (ipureintro; rfl)
    iexact Hout

/-- The body asks first which device it runs on. -/
theorem which_device {α : Type} (c : Dev nD) (f : Dev nD → Pg F α) (Q : α → sProp 𝕄) : WP c (f c) Q ⊢ WP c (Prog.lift .deviceId >>= f) Q := by
  simp only [Prog.lift, Prog.bind_op, Prog.bind_ret, wp_deviceId]
  exact BI.Entails.refl _

theorem run_kernel (K : Dev nD × Ck → ℕ) (c : Dev nD) :
    bodyIn m ρ K c ⊢ WP c (cc0_body (F := F) (Memref.whole cc0_stg0_0) (Memref.isWhole_whole _) (Memref.whole main_arg1) (Memref.isWhole_whole _)
      (Memref.whole cc0_stg1_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8) (fun _ => bodyOut m ρ c) := by
  rw [cc0_body_eq_skeleton, body_eq]
  exact BIBase.Entails.trans (run_body m ρ K c) (which_device c stBody _)

set_option maxRecDepth 100000 in
/-- The body, as the launch asks for it. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show before m ρ c ⊢ wp frame (wpE (defs₀ (F := F)) 𝒱₀ c none) Set.univ
    (cc0_body (F := F) (Memref.whole cc0_stg0_0) (Memref.isWhole_whole _) (Memref.whole main_arg1) (Memref.isWhole_whole _)
      (Memref.whole cc0_stg1_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8) (fun _ => after m ρ c)
  refine BIBase.Entails.trans (enter m ρ c) ?_
  iintro ⟨%K, HI, Hsp⟩
  iapply (wp_keep c (run_kernel m ρ K c) (fun _ => leave m ρ c)) $$ [HI Hsp]
  isplitl [HI] <;> iassumption

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start G' Ctx Known wWhole
  iintro ⟨Hw, #Hlev, Hcr, -, ⟨%K, #HK⟩, HG, Hs, Hsp⟩
  ihave Hc := (creds (F := F) c) $$ Hcr
  imodintro
  isplitl
  · isplitr
    · iexists K
      isplitr; · iexact HK
      iexact Hlev
    isplitl [HG]; · iexact HG
    isplitl [Hc]; · iexact Hc
    isplitl [Hs]; · iexact Hs
    isplitl [Hsp]; · iexact Hsp
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Scr AnyBuf
  iintro ⟨Hs, -, Hr⟩
  isplitl [Hs]; · iexact Hs
  iexact Hr

theorem phi1_exit (c : Dev nD) :
    (dats m ρ 0 c).Φ (Fin.last cfg0.N) ⊢ iprop((unscopedSems0 c ∗ wWhole m c fullShare) ∗ Pipeline.ownSems0 osem c ∗ Pipeline.scopedRest cfg0.spec c) := by
  rw [show (dats m ρ 0 c).Φ (Fin.last cfg0.N) = Φ₁ m c from rfl, scopedRest0_eq, unscoped_eq]
  unfold Φ₁ Scr AnyBuf Zeros
  iintro ⟨⟨HB, HZ⟩, Hs, Hsp, Hw, Hr⟩
  isplitl [HB Hw]; · isplitl [HB] <;> iassumption
  isplitl [HZ Hs Hsp]
  · iapply (sems_give c)
    isplitl [HZ]; · iexact HZ
    isplitl [Hs] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by fin_cases w <;> fin_cases s <;> decide) (by
      rcases t with ⟨_ | _, ht⟩
      · exact above_O₀ c
      · exact Above.zero 0)

theorem read_end (c : Dev nD) (s' : Phys nD τ sig (Elt F)) :
    iprop((unscopedSems0 c ∗ wWhole m c fullShare) ∗ SI s')
      ⊢ (|={Set.univ}=> iprop(⌜(∀ sm : SemLoc sig, sm.isScoped .tc = false → s'.mem.sem ((c.tc : Thread nD τ), sm) = 0)
          ∧ s'.mem.mem ((c.tc : Thread nD τ).loc main_arg1) = m ((c.tc : Thread nD τ).loc main_arg1)⌝ ∗ SI s') : sProp 𝕄) := by
  unfold wWhole
  iintro ⟨⟨Hu, Hw⟩, HSI⟩
  imod (Pipeline.unscopedSems0_read (X := unscopedSems0 c) (c := c) fupd_intro s') $$ [Hu HSI] with ⟨%h1, HSI⟩
  · isplitl [Hu] <;> iassumption
  ihave %h2 := (SI_pointsTo_agree (st := s')) $$ [HSI Hw]
  · isplitl [HSI] <;> iassumption
  imodintro
  isplitr
  · ipureintro
    exact ⟨h1, funext fun i => h2 i (Finset.mem_univ i)⟩
  · iexact HSI

/-! ## The run -/

/-- The arrays of the two windows after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c.tc : Thread nD τ).loc main_arg1) = m ((c.tc : Thread nD τ).loc main_arg1)

set_option maxRecDepth 8000 in
/-- For any float values, from any memory with zero counters, every fair execution of the eight devices ends, and then each
    device's arrays hold what `finalA` says, its second argument what it held, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (own_split _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ wWhole m c fullShare)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c.tc : Thread nD τ).loc main_arg1) = m ((c.tc : Thread nD τ).loc main_arg1))
    (hY := fun c s' => by
      iintro ⟨Hu, -, HSI⟩
      iapply (read_end m c s')
      isplitl [Hu] <;> iassumption)
    (hQ := fun _ h hs => ⟨fun c => ⟨(h c).1, (h c).2.2.2⟩, sem_eq_zero hs fun c => (h c).2.2.1⟩)

/-- The first argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.K

end
-- ==== Proof.Frames.lean ====
/- Each program runs, leaves its arguments as they were, and every counter at zero. -/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.RunHlo
public import Idealize.ShloMosaic.Lib.Quiescent
public import Idealize.ShloMosaic.Lib.Claim

@[expose] public section

noncomputable section

namespace Cert.Claims

open Idealize.ShloMosaic Idealize.ShloMosaic.TcCoe Idealize.SL.Sem

theorem frame_ideal : Cert.quiescent_KernelIdeal := fun m ρ _ =>
  (θ_run Cert.KernelIdeal.defs _ _).mono
    (fun r h => ⟨fun c => ⟨((h.1 c).1 0).trans (Cert.KernelIdeal.K.finalA_x m ρ c), (h.1 c).2⟩, h.2⟩)
    (Cert.KernelIdeal.K.run_main (F := Ideal) m ρ)

section

variable [Cert.Kernel.Facts]

/-- The two programs have the same text, so the same bodies. -/
theorem defs₀_eq : Cert.Kernel.defs₀ (F := Bits) = Cert.KernelIdeal.defs₀ (F := Bits) := by
  unfold Cert.Kernel.defs₀ Cert.KernelIdeal.defs₀
  refine congrArg _ (funext fun l => funext fun x => ?_)
  match l, x with
  | 0, (t, s) => rfl

theorem defs_eq : Cert.Kernel.defs (F := Bits) = Cert.KernelIdeal.defs (F := Bits) :=
  congrArg (Pipeline.defs (Cert.KernelIdeal.pcfgs (F := Bits))) defs₀_eq

/-- The run was written for any float values: here they are bit patterns. -/
theorem frame_kernel : Cert.quiescent_Kernel := fun m ρ _ => by
  rw [defs_eq]
  exact (θ_run Cert.KernelIdeal.defs _ _).mono
    (fun _ h => ⟨fun c => ⟨((h.1 c).1 0).trans (Cert.KernelIdeal.K.finalA_x m ρ c), (h.1 c).2⟩, h.2⟩)
    (Cert.KernelIdeal.K.run_main (F := Bits) m ρ)

end

theorem frame_reference : Cert.quiescent_ReferenceIdeal := by
  intro m ρ _
  hlo_run
  · exact fun _ => ⟨trivial, trivial⟩
  · exact sem_eq_zero_of_no_sems (by decide) r.2

theorem preserves : Cert.preserves_Kernel_KernelIdeal := trivial

end Cert.Claims

end
-- ==== Proof.Values.lean ====
/- What the kernel's operations are on extended reals, entry by entry. -/
module

public import proofs.«01_k».proof.Proof.Parts
public import Idealize.ShloMosaic.Lib.Layout
public import Idealize.ShloMosaic.Lib.Pointwise

@[expose] public section

set_option backward.proofsInPublic true

noncomputable section

namespace Cert.Values

open Idealize.ShloMosaic.TcCoe Idealize.SL.Sem
open Idealize.ShloMosaic Idealize.ShloMosaic.Pointwise Cert.KernelIdeal Cert.KernelIdeal.Gen

/-- The first block's product. -/
theorem first_apply (w : Vec Ideal S1x512x1024 .f32) (g : Vec Ideal S512x512 .bf16) (a : Fin 512) (b : Fin 1024) :
    k0_pay9 w g (ix2 a b) = ∑ k : Fin 512, g (ix2 a k) * w (ix3 0 k b) := by
  pointwise [k0_pay9]

/-- A later block's product, added. -/
theorem next_apply (w : Vec Ideal S1x512x1024 .f32) (g : Vec Ideal S512x512 .bf16) (o : Vec Ideal S512x1024 .f32) (a : Fin 512) (b : Fin 1024) :
    k0_pay18 w g o (ix2 a b) = o (ix2 a b) + ∑ k : Fin 512, g (ix2 a k) * w (ix3 0 k b) := by
  pointwise [k0_pay18]

/-- Rounding changes nothing over the reals. -/
theorem cast_apply (x : Vec Ideal S512x512 .f32) (a b : Fin 512) : k0_pay1 x (ix2 a b) = x (ix2 a b) := by
  pointwise [k0_pay1]

/-- The clamp at zero. -/
theorem relu_apply (v : Vec Ideal S512x1024 .f32) (a : Fin 512) (b : Fin 1024) : k0_pay101 v (ix2 a b) = max (v (ix2 a b)) 0 := by
  pointwise [k0_pay101]

theorem lowest : Ideal.ofBits .f32 0xFF800000#32 = ⊥ := by
  simp [Ideal.ofBits, Ideal.ieee]

theorem fold_le_all {α : Type} [Fintype α] (f : α → EReal) (t : EReal) : Finset.univ.fold max ⊥ f ≤ t ↔ ∀ x, f x ≤ t := by
  rw [Finset.fold_max_le]
  exact ⟨fun h x => h.2 x (Finset.mem_univ x), fun h => ⟨bot_le, fun x _ => h x⟩⟩

/-- The largest of the eight maxima. -/
theorem top_le (v : Vec Ideal S8x1 .f32) (a : Fin 1) (t : EReal) : k0_pay112 v (ix1 a) ≤ t ↔ ∀ k : Fin 8, v (ix2 k 0) ≤ t := by
  rw [show k0_pay112 v (ix1 a) = Finset.univ.fold max ⊥ (fun k : Fin 8 => v (ix2 k 0)) by pointwise [k0_pay112]; rw [lowest],
    fold_le_all]

/-- The largest entry of a tile, clamped at zero. -/
theorem tileMax_le (v : Vec Ideal S512x1024 .f32) (t : EReal) : K.tileMax v ≤ t ↔ ∀ (a : Fin 512) (b : Fin 1024), max (v (ix2 a b)) 0 ≤ t := by
  rw [show K.tileMax v = Finset.univ.fold max ⊥ (fun x : Fin 512 × Fin 1024 => max (v (ix2 x.1 x.2)) 0) by
    pointwise [K.tileMax]; rw [lowest]; simp only [relu_apply], fold_le_all]
  exact ⟨fun h a b => h (a, b), fun h p => h p.1 p.2⟩

/-- The quantiser: the nearest multiple of the scale, within 127 of them. -/
def quant (top y : EReal) : EReal :=
  min (Ideal.ofBits .f32 0x42FE0000#32) (max (Ideal.ofBits .f32 0xC2FE0000#32)
    (Ideal.liftRound Ideal.roundHalfEven (Ideal.div y (Ideal.div top (Ideal.ofBits .f32 0x42FE0000#32)))))
    * Ideal.div top (Ideal.ofBits .f32 0x42FE0000#32)

theorem quant_apply (s : FVec Ideal S1 .f32) (v : Vec Ideal S512x1024 .f32) (a : Fin 512) (b : Fin 1024) :
    k0_pay114 s v (ix2 a b) = quant (s (ix1 0)) (v (ix2 a b)) := by
  pointwise [k0_pay114, k0_pay113, quant]

/-! ## The buffers -/

section
variable (m : (ℓ : Loc nD τ sig) → Buf (Elt Ideal) ℓ) (ρ : Dev nD → PrngReg)
  (X : (⟨2, ![4096, 4096]⟩ : Shape).Idx → EReal) (W : (⟨2, ![4096, 8192]⟩ : Shape).Idx → EReal)
  (hX : ∀ c : Dev nD, m (c.tc.loc main_arg0) = Layout.block ⟨2, ![4096, 512]⟩ ⟨2, ![4096, 4096]⟩ 1 8 c X)
  (hW : ∀ c : Dev nD, m (c.tc.loc main_arg1) = W)

/-- Row `a` of device `c`'s part. -/
def row (c : Fin 8) (a : Fin 512) : Fin 4096 := ⟨512 * c.val + a.val, by omega⟩
/-- Column `b` of tile `n`. -/
def col (n : Fin 8) (b : Fin 1024) : Fin 8192 := ⟨1024 * n.val + b.val, by omega⟩

include hX in
/-- What device `c` holds of device `s`'s columns. -/
theorem x_apply (s c : Dev nD) (a k : Fin 512) : K.xbl m ρ s c (ix2 a k) = X (ix2 (row c a) (row s k)) := by
  unfold K.xbl
  rw [cast_apply]
  show K.xstg m ρ s _ = _
  show m (s.tc.loc main_arg0) _ = _
  rw [hX s]
  refine congrArg X ?_
  funext i; apply Fin.ext; fin_cases i
  · show 0 + 1 * (512 * c.val + 1 * a.val) = 512 * c.val + a.val
    omega
  · show s.val * 512 + (0 + 1 * (0 + 1 * k.val)) = 512 * s.val + k.val
    omega

include hW in
/-- A weight tile as loaded. -/
theorem w_apply (c : Dev nD) (s n : Fin 8) (k : Fin 512) (b : Fin 1024) :
    K.wL m c s n (ix3 0 k b) = W (ix2 (row s k) (col n b)) := by
  rw [show K.wL m c s n = shapeCast S1x512x1024 (K.wT m c s n) shapeCasts_S512x1024_S1x512x1024 from rfl,
    show shapeCast S1x512x1024 (K.wT m c s n) shapeCasts_S512x1024_S1x512x1024 (ix3 0 k b) = K.wT m c s n (ix2 k b) by pointwise]
  show m (c.tc.loc main_arg1) _ = _
  rw [hW c]
  refine congrArg W ?_
  funext i; apply Fin.ext; fin_cases i
  · show 512 * s.val + 1 * k.val = 512 * s.val + k.val
    omega
  · show 1024 * n.val + 1 * b.val = 1024 * n.val + b.val
    omega

/-- The product of the whole arrays. -/
def prod (r : Fin 4096) (j : Fin 8192) : EReal := ∑ k : Fin 4096, X (ix2 r k) * W (ix2 k j)
/-- The part of it from block `s` of the inner dimension. -/
def part (r : Fin 4096) (j : Fin 8192) (s : Fin 8) : EReal := ∑ k : Fin 512, X (ix2 r (row s k)) * W (ix2 (row s k) j)

/-- The product is the sum of its blocks. -/
theorem prod_parts (r : Fin 4096) (j : Fin 8192) : prod X W r j = ∑ s : Fin 8, part X W r j s := by
  unfold prod part
  rw [Fin.sum_univ_tiles 8 512 rfl]
  refine Finset.sum_congr rfl fun s _ => Finset.sum_congr rfl fun k _ => ?_
  have e : ∀ h, (⟨s.val * 512 + k.val, h⟩ : Fin 4096) = row s k := fun h => Fin.ext (by show s.val * 512 + k.val = 512 * s.val + k.val; omega)
  simp only [e]

include hX hW in
/-- The accumulator after the blocks so far. -/
theorem acc_apply (c n : Fin 8) (a : Fin 512) (b : Fin 1024) (d : ℕ) :
    K.acc m ρ c n d (ix2 a b) = ∑ e ∈ Finset.range (d + 1), part X W (row c a) (col n b) (K.blk c e) := by
  induction d with
  | zero =>
    show k0_pay9 _ _ (ix2 a b) = _
    rw [first_apply, Finset.sum_range_one]
    exact Finset.sum_congr rfl fun k _ => by rw [x_apply m ρ X hX, w_apply m W hW]
  | succ d ih =>
    show k0_pay18 _ _ _ (ix2 a b) = _
    rw [next_apply, ih, Finset.sum_range_succ _ (d + 1)]
    congr 1
    exact Finset.sum_congr rfl fun k _ => by rw [x_apply m ρ X hX, w_apply m W hW]

include hX hW in
/-- Each device's accumulator is its part of the product, in whatever order the blocks came. -/
theorem acc_eq (c n : Fin 8) (a : Fin 512) (b : Fin 1024) : K.acc m ρ c n 7 (ix2 a b) = prod X W (row c a) (col n b) := by
  rw [acc_apply m ρ X W hX hW, prod_parts, Finset.sum_range]
  refine (Finset.sum_congr rfl fun e _ => ?_).trans (Equiv.sum_comp (Equiv.addLeft c) _)
  rfl

theorem sup_le_all {α : Type} [Fintype α] (f : α → EReal) (t : EReal) : Finset.univ.sup f ≤ t ↔ ∀ x, f x ≤ t := by
  rw [Finset.sup_le_iff]
  exact ⟨fun h x => h x (Finset.mem_univ x), fun h x _ => h x⟩

/-- The product clamped at zero. -/
def pos (r : Fin 4096) (j : Fin 8192) : EReal := max (prod X W r j) 0
/-- The largest entry. -/
def top : EReal := Finset.univ.sup fun p : Fin 4096 × Fin 8192 => pos X W p.1 p.2

theorem top_le_iff (t : EReal) : top X W ≤ t ↔ ∀ r j, pos X W r j ≤ t := by
  unfold top
  rw [sup_le_all]
  exact ⟨fun h r j => h (r, j), fun h p => h p.1 p.2⟩

theorem runMax_zero (c : Dev nD) : K.runMax m ρ c 0 = 0 := Ideal.ofBits_zero_f32
theorem runMax_succ (c : Dev nD) (n : ℕ) :
    K.runMax m ρ c (n + 1) = max (K.runMax m ρ c n) (K.tileMax (K.acc m ρ c (Fin.ofNat 8 n) 7)) := by
  rw [K.runMax]
  generalize K.runMax m ρ c n = x
  generalize K.tileMax (K.acc m ρ c (Fin.ofNat 8 n) 7) = y
  rfl

/-- The running maximum is the largest of zero and the tiles so far. -/
theorem runMax_le (t : EReal) (c : Dev nD) (N : ℕ) :
    K.runMax m ρ c N ≤ t ↔ 0 ≤ t ∧ ∀ n < N, K.tileMax (K.acc m ρ c (Fin.ofNat 8 n) 7) ≤ t := by
  induction N with
  | zero =>
    rw [runMax_zero]
    exact ⟨fun h => ⟨h, fun n hn => absurd hn (Nat.not_lt_zero n)⟩, fun h => h.1⟩
  | succ N ih =>
    rw [runMax_succ, max_le_iff, ih]
    constructor
    · rintro ⟨⟨h0, h⟩, h'⟩
      refine ⟨h0, fun n hn => ?_⟩
      rcases Nat.lt_succ_iff_lt_or_eq.mp hn with hn | rfl
      · exact h n hn
      · exact h'
    · rintro ⟨h0, h⟩
      exact ⟨⟨h0, fun n hn => h n (by omega)⟩, h N (by omega)⟩

/-- The first column of the maxima. -/
theorem first_column (f : (cc0_scratch3 : Ref sig .tc).ty.Contents (Elt Ideal)) (k : Fin 8) :
    (K.aM.access (Rect.unit (s := S8x128) ![0, 0] S8x1.size inb_S8x128_S8x1_0_0)).read (Elt Ideal) f (ix2 k 0) = f (ix2 k (0 : Fin 128)) := by
  show f _ = f _
  refine congrArg f ?_
  funext i; apply Fin.ext; fin_cases i
  · show 0 + 1 * k.val = k.val
    omega
  · rfl

theorem ix2_eq {d₀ d₁ : ℕ} (a : Fin d₀) (b : Fin d₁) : K.ix2 a b = ix2 a b := by
  funext i; fin_cases i <;> rfl

include hX hW in
/-- The devices agree on the largest entry of the whole result. -/
theorem scl_eq : K.scl m ρ (ix1 0) = top X W := by
  refine eq_of_forall_ge_iff fun t => ?_
  unfold K.scl
  rw [top_le, top_le_iff]
  have e : ∀ k : Fin 8, (K.aM.access (Rect.unit (s := S8x128) ![0, 0] S8x1.size inb_S8x128_S8x1_0_0)).read (Elt Ideal) (K.aFull m ρ) (ix2 k 0)
      = K.runMax m ρ k 8 := fun k => (first_column _ k).trans rfl
  simp only [e, runMax_le, tileMax_le, acc_eq m ρ X W hX hW]
  constructor
  · intro h r j
    have := (h ⟨r.val / 512, by omega⟩).2 (j.val / 1024) (by omega) ⟨r.val % 512, by omega⟩ ⟨j.val % 1024, by omega⟩
    have er : row ⟨r.val / 512, by omega⟩ ⟨r.val % 512, by omega⟩ = r := Fin.ext (by show 512 * (r.val / 512) + r.val % 512 = r.val; omega)
    have ej : col (Fin.ofNat 8 (j.val / 1024)) ⟨j.val % 1024, by omega⟩ = j :=
      Fin.ext (by show 1024 * (j.val / 1024 % 8) + j.val % 1024 = j.val; omega)
    rwa [er, ej] at this
  · intro h c
    exact ⟨(le_max_right _ _).trans (h 0 0), fun n _ a b => h _ _⟩

include hX hW in
/-- Device `c`'s result is its rows of the quantised product. -/
theorem out_apply (c : Dev nD) (a : Fin 512) (j : Fin 8192) :
    K.outAt m ρ c (ix2 a j) = quant (top X W) (pos X W (row c a) j) := by
  have e : K.outAt m ρ c (ix2 a j) = K.outT m ρ c ⟨j.val / 1024, by omega⟩ (K.ix2 a ⟨j.val % 1024, by omega⟩) := rfl
  have ej : col ⟨j.val / 1024, by omega⟩ ⟨j.val % 1024, by omega⟩ = j := Fin.ext (by show 1024 * (j.val / 1024) + j.val % 1024 = j.val; omega)
  rw [e, K.outT, ix2_eq, quant_apply, scl_eq m ρ X W hX hW, relu_apply, acc_eq m ρ X W hX hW, ej]
  rfl

end

end Cert.Values

end
-- ==== Proof.Equal.lean ====
/- The kernel's rows and the reference's array are the same function of the arguments. -/
module

public import proofs.«01_k».proof.Proof.Frames
public import proofs.«01_k».proof.Proof.Values

@[expose] public section

noncomputable section

namespace Cert.Claims

open Idealize.ShloMosaic Idealize.ShloMosaic.TcCoe Idealize.SL.Sem Idealize.ShloMosaic.Pointwise Cert.Values

section
open Cert.KernelIdeal Cert.KernelIdeal.Gen

set_option maxRecDepth 20000 in
/-- The result's one block is all of it, in place. -/
theorem blk_emb (i : S512x8192.Idx) : (win0_1.blk (0 : Fin 1)).view.emb i = i := by
  have h0 : 0 + 1 * (i 0).val = (i 0).val := by rw [Nat.one_mul, Nat.zero_add]
  have h1 : 0 + 1 * (i 1).val = (i 1).val := by rw [Nat.one_mul, Nat.zero_add]
  funext a; apply Fin.ext; fin_cases a
  · refine Eq.trans ?_ h0
    rfl
  · refine Eq.trans ?_ h1
    rfl

/-- The result buffer ends holding what the body left in its staging buffer. -/
theorem final_out {F : FTy → Type} [FloatOps F] (m : (ℓ : Loc nD τ sig) → Buf (Elt F) ℓ) (ρ : Dev nD → PrngReg) (c : Dev nD) :
    K.finalA m ρ c (1 : Fin 2) = K.outAt m ρ c := by
  refine (K.dats m ρ 0 c).arrAt_eq_of_cover (1 : Fin 2) (K.outAt m ρ c) (fun t _ => ?_) (fun i => ⟨t0_0, flush0_1 t0_0, ?_⟩)
  · obtain rfl : t = t0_0 := Subsingleton.elim (α := Fin 1) t t0_0
    funext j
    exact congrArg (K.outAt m ρ c) (blk_emb j).symm
  · have h := (win0_1.blk (0 : Fin 1)).view.emb_mem_set i
    rwa [blk_emb] at h

end

section
open Cert.ReferenceIdeal

variable (X : FVec Ideal S4096x4096 .f32) (W : FVec Ideal S4096x8192 .f32) [Cert.ReferenceIdeal.Facts]

/-- The reference's product, clamped at zero. -/
def refPos : FVec Ideal S4096x8192 .f32 :=
  maximumf (Host.dotGeneral dot_S4096x4096_S4096x8192_S4096x8192_1_0_0_1_n_n none X W)
    (broadcastInDim S4096x8192 ![] (Facts₀.bcast_S_S4096x8192) (constant S_ .f32 0x00000000#32))

/-- The largest absolute value. -/
def refTop : FVec Ideal S_ .f32 :=
  Host.reduce FloatOps.maximumf (Host.absf (refPos X W)) (constant S_ .f32 0xFF800000#32) Facts₀.reducesTo_S4096x8192_S_d0_1 Facts₀.h_S_

/-- It is the clamped product, entry by entry. -/
theorem refPos_apply (r : Fin 4096) (j : Fin 8192) : refPos X W (ix2 r j) = pos X W r j := by
  pointwise [refPos, pos, prod]
  trace_state

/-- Every entry is at least zero, so the largest absolute value is the largest entry. -/
theorem refTop_eq (j : S_.Idx) : refTop X W j = top X W := by
  rw [show refTop X W j = Finset.univ.fold max ⊥ (fun p : Fin 4096 × Fin 8192 => max (pos X W p.1 p.2) (-pos X W p.1 p.2)) by
    pointwise [refTop]; rw [lowest]; simp only [Ideal.absf_def, refPos_apply]]
  refine eq_of_forall_ge_iff fun t => ?_
  rw [fold_le_all, top_le_iff]
  have hp : ∀ r j, 0 ≤ pos X W r j := fun r j => le_max_right _ _
  have hn : ∀ r j, max (pos X W r j) (-pos X W r j) = pos X W r j := fun r j =>
    max_eq_left ((EReal.neg_le_neg_iff.mpr (hp r j)).trans (by rw [neg_zero]; exact hp r j))
  constructor
  · intro h r j
    have := h (r, j)
    rwa [hn] at this
  · intro h p
    rw [hn]
    exact h _ _

/-- The reference's result. -/
def refOut : FVec Ideal S4096x8192 .f32 :=
  have s : FVec Ideal S_ .f32 := Host.divf (refTop X W) (constant S_ .f32 0x42FE0000#32)
  mulf (minimumf (broadcastInDim S4096x8192 ![] Facts₀.bcast_S_S4096x8192 (constant S_ .f32 0x42FE0000#32))
      (maximumf (broadcastInDim S4096x8192 ![] Facts₀.bcast_S_S4096x8192 (constant S_ .f32 0xC2FE0000#32))
        (Host.roundeven (Host.divf (refPos X W) (broadcastInDim S4096x8192 ![] Facts₀.bcast_S_S4096x8192 s)))))
    (broadcastInDim S4096x8192 ![] Facts₀.bcast_S_S4096x8192 s)

/-- The reference quantises the clamped product. -/
theorem refOut_apply (r : Fin 4096) (j : Fin 8192) : refOut X W (ix2 r j) = quant (top X W) (pos X W r j) := by
  pointwise [refOut]
  simp only [refTop_eq, refPos_apply]
  rfl

end

open Cert.ReferenceIdeal in
/-- From arguments placed as the kernel takes them, device `c` ends with rows `512 c …` of the reference's result. -/
theorem algebraic : Cert.algebraic_KernelIdeal_ReferenceIdeal := by
  intro m g m' g' hpre hagree
  let X : (⟨2, ![4096, 4096]⟩ : Shape).Idx → EReal := m' (((0 : Dev nD).tc : Thread nD τ).loc main_arg0)
  let W : (⟨2, ![4096, 8192]⟩ : Shape).Idx → EReal := m' (((0 : Dev nD).tc : Thread nD τ).loc main_arg1)
  refine ⟨fun i => quant (top X W) (pos X W (i 0) (i 1)), ?_, ?_⟩
  · refine (θ_run Cert.KernelIdeal.defs _ _).mono (fun r h c => ?_) (Cert.KernelIdeal.K.run_main (F := Ideal) m g)
    refine ⟨((h.1 c).1 1).trans ((final_out m g c).trans ?_), ((h.1 c).1 0).trans (Cert.KernelIdeal.K.finalA_x m g c), (h.1 c).2⟩
    funext i
    have ho := out_apply m g X W (fun c => (hagree c).1) (fun c => (hagree c).2) c (i 0) (i 1)
    rw [← eq_ix2 (n0 := 512) (n1 := 8192) i] at ho
    refine ho.trans (congrArg (fun r => quant (top X W) (pos X W r (i 1))) (Fin.ext ?_))
    show 512 * c.val + (i 0).val = c.val * 512 + (i 0).val
    rw [Nat.mul_comm]
  · hlo_run
    show refOut X W = _
    funext i
    rw [eq_ix2 (n0 := 4096) (n1 := 8192) i]
    exact refOut_apply X W _ _

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Equal

@[expose] public section

noncomputable section

namespace Cert.Proof

theorem claim : Cert.Claim := ⟨Cert.Kernel.Gen.facts, Cert.KernelIdeal.Gen.facts, Cert.ReferenceIdeal.Gen.facts,
  Cert.Claims.frame_kernel, Cert.Claims.frame_ideal, Cert.Claims.frame_reference, Cert.Claims.preserves,
  Cert.Claims.algebraic⟩

end Cert.Proof

end
